-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S3x640x8 : Shape := ⟨3, ![3, 640, 8]⟩
abbrev S3x640x6144 : Shape := ⟨3, ![3, 640, 6144]⟩
abbrev S3x640 : Shape := ⟨2, ![3, 640]⟩
abbrev S3x640x2x6144 : Shape := ⟨4, ![3, 640, 2, 6144]⟩
abbrev S3x640x2 : Shape := ⟨3, ![3, 640, 2]⟩
abbrev S8x6144 : Shape := ⟨2, ![8, 6144]⟩
abbrev S_ : Shape := ⟨0, ![]⟩

class Facts : Prop where
  bcast_S_S3x640x2 : S_.BroadcastsInDim S3x640x2 (![] : Fin 0 → Fin S3x640x2.rank)

variable [Facts]

def fn {F : FTy → Type} [FloatOps F] (main_arg0 : FVec F S3x640x8 .f32) (main_arg1 : FVec F S3x640x6144 .fp8e5m2) (main_arg2 : FVec F S3x640 .f32) (main_arg3 : FVec F S3x640x2x6144 .fp8e4m3) (main_arg4 : FVec F S3x640x2 .f32) (main_arg5 : IVec S3x640x2 32) (main_arg6 : FVec F S8x6144 .f32) : IVec S3x640x2 1 :=
  let main_v0 : FVec F S3x640x2 .f32 := Host.absf main_arg4
  let main_cst : FVec F S_ .f32 := constant S_ .f32 0x7F800000#32
  let main_v1 : FVec F S3x640x2 .f32 := broadcastInDim S3x640x2 ![] bcast_S_S3x640x2 main_cst
  let main_v2 : IVec S3x640x2 1 := cmpf .olt main_v0 main_v1
  main_v2
-- ==== Kernel.lean ====
abbrev S3x640x8 : Shape := ⟨3, ![3, 640, 8]⟩
abbrev S3x640x6144 : Shape := ⟨3, ![3, 640, 6144]⟩
abbrev S3x640 : Shape := ⟨2, ![3, 640]⟩
abbrev S3x640x2x6144 : Shape := ⟨4, ![3, 640, 2, 6144]⟩
abbrev S3x640x2 : Shape := ⟨3, ![3, 640, 2]⟩
abbrev S8x6144 : Shape := ⟨2, ![8, 6144]⟩
abbrev S3x8x640 : Shape := ⟨3, ![3, 8, 640]⟩
abbrev S3x2x640x6144 : Shape := ⟨4, ![3, 2, 640, 6144]⟩
abbrev S3x2x640 : Shape := ⟨3, ![3, 2, 640]⟩
abbrev S15x128x6144 : Shape := ⟨3, ![15, 128, 6144]⟩
abbrev S15x2x128x6144 : Shape := ⟨4, ![15, 2, 128, 6144]⟩
abbrev S24x6144 : Shape := ⟨2, ![24, 6144]⟩
abbrev S8x128 : Shape := ⟨2, ![8, 128]⟩
abbrev S5 : Shape := ⟨1, ![5]⟩
abbrev S15 : Shape := ⟨1, ![15]⟩
abbrev S1 : Shape := ⟨1, ![1]⟩
abbrev S_ : Shape := ⟨0, ![]⟩
abbrev S1x128x6144 : Shape := ⟨3, ![1, 128, 6144]⟩
abbrev S128x6144 : Shape := ⟨2, ![128, 6144]⟩
abbrev S1x2x128x6144 : Shape := ⟨4, ![1, 2, 128, 6144]⟩
abbrev S2x128x6144 : Shape := ⟨3, ![2, 128, 6144]⟩
abbrev S1x1x128 : Shape := ⟨3, ![1, 1, 128]⟩
abbrev S1x128 : Shape := ⟨2, ![1, 128]⟩
abbrev S8x256 : Shape := ⟨2, ![8, 256]⟩
abbrev S24x256 : Shape := ⟨2, ![24, 256]⟩
abbrev S1x128x256 : Shape := ⟨3, ![1, 128, 256]⟩
abbrev S128x256 : Shape := ⟨2, ![128, 256]⟩
abbrev S1x2x128x256 : Shape := ⟨4, ![1, 2, 128, 256]⟩
abbrev S2x128x256 : Shape := ⟨3, ![2, 128, 256]⟩
abbrev S256x256 : Shape := ⟨2, ![256, 256]⟩
abbrev S3x128 : Shape := ⟨2, ![3, 128]⟩
abbrev S128 : Shape := ⟨1, ![128]⟩
abbrev S32x128 : Shape := ⟨2, ![32, 128]⟩
abbrev S1x32x128 : Shape := ⟨3, ![1, 32, 128]⟩
abbrev S16x128 : Shape := ⟨2, ![16, 128]⟩
abbrev S128x128 : Shape := ⟨2, ![128, 128]⟩
abbrev S1x8x128 : Shape := ⟨3, ![1, 8, 128]⟩
abbrev S8 : Shape := ⟨1, ![8]⟩
abbrev S8x1 : Shape := ⟨2, ![8, 1]⟩

abbrev nBuf : Space → Nat
  | .hbm => 17
  | .vmem => 14
  | .smem => 0
  | _ => 0

abbrev bufTy : (tb : Table) → Fin (tcTables nBuf tb) → BufTy
  | .hbm, ⟨0, _⟩ => ⟨S3x640x8, .f32⟩
  | .hbm, ⟨1, _⟩ => ⟨S3x640x6144, .fp8e5m2⟩
  | .hbm, ⟨2, _⟩ => ⟨S3x640, .f32⟩
  | .hbm, ⟨3, _⟩ => ⟨S3x640x2x6144, .fp8e4m3⟩
  | .hbm, ⟨4, _⟩ => ⟨S3x640x2, .f32⟩
  | .hbm, ⟨5, _⟩ => ⟨S3x640x2, .i32⟩
  | .hbm, ⟨6, _⟩ => ⟨S8x6144, .f32⟩
  | .hbm, ⟨7, _⟩ => ⟨S3x8x640, .f32⟩
  | .hbm, ⟨8, _⟩ => ⟨S3x2x640x6144, .fp8e4m3⟩
  | .hbm, ⟨9, _⟩ => ⟨S3x2x640, .f32⟩
  | .hbm, ⟨10, _⟩ => ⟨S3x2x640, .i32⟩
  | .hbm, ⟨11, _⟩ => ⟨S3x8x640, .f32⟩
  | .hbm, ⟨12, _⟩ => ⟨S8x6144, .f32⟩
  | .hbm, ⟨13, _⟩ => ⟨S3x8x640, .f32⟩
  | .hbm, ⟨14, _⟩ => ⟨S8x6144, .f32⟩
  | .hbm, ⟨15, _⟩ => ⟨S3x640x8, .f32⟩
  | .hbm, ⟨16, _⟩ => ⟨S3x640x8, .f32⟩
  | .local _ .vmem, ⟨0, _⟩ => ⟨S3x8x640, .f32⟩
  | .local _ .vmem, ⟨1, _⟩ => ⟨S8x6144, .f32⟩
  | .local _ .vmem, ⟨2, _⟩ => ⟨S3x8x640, .f32⟩
  | .local _ .vmem, ⟨3, _⟩ => ⟨S8x6144, .f32⟩
  | .local _ .vmem, ⟨4, _⟩ => ⟨S3x8x640, .f32⟩
  | .local _ .vmem, ⟨5, _⟩ => ⟨S15x128x6144, .fp8e5m2⟩
  | .local _ .vmem, ⟨6, _⟩ => ⟨S3x640, .f32⟩
  | .local _ .vmem, ⟨7, _⟩ => ⟨S15x2x128x6144, .fp8e4m3⟩
  | .local _ .vmem, ⟨8, _⟩ => ⟨S3x2x640, .f32⟩
  | .local _ .vmem, ⟨9, _⟩ => ⟨S3x2x640, .i32⟩
  | .local _ .vmem, ⟨10, _⟩ => ⟨S8x6144, .f32⟩
  | .local _ .vmem, ⟨11, _⟩ => ⟨S8x6144, .bf16⟩
  | .local _ .vmem, ⟨12, _⟩ => ⟨S24x6144, .f32⟩
  | .local _ .vmem, ⟨13, _⟩ => ⟨S8x128, .f32⟩
  | _, _ => ⟨S3x640x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_239 : BitVec 32 := 0#32
  let c15_i32 : BitVec 32 := 15#32
  let v213 : BitVec 32 := Scalar.addi c0_i32_239 c15_i32
  let c1_i32_240 : BitVec 32 := 1#32
  ⟨c0_i32_239, v213, c1_i32_240⟩
def k0_off1 (k0_t1 : Fin k0_t1_loop.trips) : Fin 1 → Nat :=
  let c0_i32_239 : BitVec 32 := 0#32
  let c1_i32_240 : BitVec 32 := 1#32
  let arg24 : BitVec 32 := Scf.iv c0_i32_239 c1_i32_240 k0_t1
  ![arg24.toNat]
def k0_off2 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let c0_i32_268 : BitVec 32 := 0#32
  let c0_i32_269 : BitVec 32 := 0#32
  ![arg24.toNat, 0, 0]
def k0_off3 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let c5_i32_266 : BitVec 32 := 5#32
  let v256 : BitVec 32 := Scalar.muli v255 c5_i32_266
  let v257 : BitVec 32 := Scalar.subi arg24 v256
  let c128_i32_267 : BitVec 32 := 128#32
  let v258 : BitVec 32 := Scalar.muli v257 c128_i32_267
  let c0_i32_270 : BitVec 32 := 0#32
  ![v255.toNat, v258.toNat, 0]
def k0_off4 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let c0_i32_271 : BitVec 32 := 0#32
  let c0_i32_272 : BitVec 32 := 0#32
  let c0_i32_273 : BitVec 32 := 0#32
  ![arg24.toNat, 0, 0, 0]
def k0_off5 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let c0_i32_274 : BitVec 32 := 0#32
  let c5_i32_266 : BitVec 32 := 5#32
  let v256 : BitVec 32 := Scalar.muli v255 c5_i32_266
  let v257 : BitVec 32 := Scalar.subi arg24 v256
  let c128_i32_267 : BitVec 32 := 128#32
  let v258 : BitVec 32 := Scalar.muli v257 c128_i32_267
  let c0_i32_275 : BitVec 32 := 0#32
  ![v255.toNat, 0, v258.toNat, 0]
def k0_mult1 (k0_t1 : Fin k0_t1_loop.trips) : BitVec 32 :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let c5_i32_266 : BitVec 32 := 5#32
  let v256 : BitVec 32 := Scalar.muli v255 c5_i32_266
  let v257 : BitVec 32 := Scalar.subi arg24 v256
  let c128_i32_276 : BitVec 32 := 128#32
  let v271 : BitVec 32 := Scalar.muli v257 c128_i32_276
  v271
def k0_off6 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let v274 : Index := Scalar.indexCast v255
  let c0_277 : Index := 0#32
  let c5_i32_266 : BitVec 32 := 5#32
  let v256 : BitVec 32 := Scalar.muli v255 c5_i32_266
  let v257 : BitVec 32 := Scalar.subi arg24 v256
  let c128_i32_276 : BitVec 32 := 128#32
  let v271 : BitVec 32 := Scalar.muli v257 c128_i32_276
  let v272 : BitVec 32 := v271
  let v275 : Index := Scalar.indexCast v272
  ![v274.toNat, 0, v275.toNat]
def k0_off7 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let v288 : Index := Scalar.indexCast v255
  let c1 : Index := 1#32
  let c5_i32_266 : BitVec 32 := 5#32
  let v256 : BitVec 32 := Scalar.muli v255 c5_i32_266
  let v257 : BitVec 32 := Scalar.subi arg24 v256
  let c128_i32_276 : BitVec 32 := 128#32
  let v271 : BitVec 32 := Scalar.muli v257 c128_i32_276
  let v272 : BitVec 32 := v271
  let v289 : Index := Scalar.indexCast v272
  ![v288.toNat, 1, v289.toNat]
def k0_off8 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v323 : Index := Scalar.indexCast arg24
  let c0_289 : Index := 0#32
  let c0_290 : Index := 0#32
  ![v323.toNat, 0, 0]
def k0_off9 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v328 : Index := Scalar.indexCast arg24
  let c0_292 : Index := 0#32
  let c0_293 : Index := 0#32
  let c0_294 : Index := 0#32
  ![v328.toNat, 0, 0, 0]
def k0_off10 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v339 : Index := Scalar.indexCast arg24
  let c0_301 : Index := 0#32
  let c256_302 : Index := 256#32
  ![v339.toNat, 0, 256]
def k0_off11 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v344 : Index := Scalar.indexCast arg24
  let c0_304 : Index := 0#32
  let c0_305 : Index := 0#32
  let c256_306 : Index := 256#32
  ![v344.toNat, 0, 0, 256]
def k0_off12 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v355 : Index := Scalar.indexCast arg24
  let c0_313 : Index := 0#32
  let c512_314 : Index := 512#32
  ![v355.toNat, 0, 512]
def k0_off13 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v360 : Index := Scalar.indexCast arg24
  let c0_316 : Index := 0#32
  let c0_317 : Index := 0#32
  let c512_318 : Index := 512#32
  ![v360.toNat, 0, 0, 512]
def k0_off14 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v371 : Index := Scalar.indexCast arg24
  let c0_325 : Index := 0#32
  let c768_326 : Index := 768#32
  ![v371.toNat, 0, 768]
def k0_off15 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v376 : Index := Scalar.indexCast arg24
  let c0_328 : Index := 0#32
  let c0_329 : Index := 0#32
  let c768_330 : Index := 768#32
  ![v376.toNat, 0, 0, 768]
def k0_off16 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v387 : Index := Scalar.indexCast arg24
  let c0_337 : Index := 0#32
  let c1024_338 : Index := 1024#32
  ![v387.toNat, 0, 1024]
def k0_off17 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v392 : Index := Scalar.indexCast arg24
  let c0_340 : Index := 0#32
  let c0_341 : Index := 0#32
  let c1024_342 : Index := 1024#32
  ![v392.toNat, 0, 0, 1024]
def k0_off18 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v403 : Index := Scalar.indexCast arg24
  let c0_349 : Index := 0#32
  let c1280_350 : Index := 1280#32
  ![v403.toNat, 0, 1280]
def k0_off19 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v408 : Index := Scalar.indexCast arg24
  let c0_352 : Index := 0#32
  let c0_353 : Index := 0#32
  let c1280_354 : Index := 1280#32
  ![v408.toNat, 0, 0, 1280]
def k0_off20 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v419 : Index := Scalar.indexCast arg24
  let c0_361 : Index := 0#32
  let c1536_362 : Index := 1536#32
  ![v419.toNat, 0, 1536]
def k0_off21 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v424 : Index := Scalar.indexCast arg24
  let c0_364 : Index := 0#32
  let c0_365 : Index := 0#32
  let c1536_366 : Index := 1536#32
  ![v424.toNat, 0, 0, 1536]
def k0_off22 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v435 : Index := Scalar.indexCast arg24
  let c0_373 : Index := 0#32
  let c1792_374 : Index := 1792#32
  ![v435.toNat, 0, 1792]
def k0_off23 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v440 : Index := Scalar.indexCast arg24
  let c0_376 : Index := 0#32
  let c0_377 : Index := 0#32
  let c1792_378 : Index := 1792#32
  ![v440.toNat, 0, 0, 1792]
def k0_off24 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v451 : Index := Scalar.indexCast arg24
  let c0_385 : Index := 0#32
  let c2048_386 : Index := 2048#32
  ![v451.toNat, 0, 2048]
def k0_off25 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v456 : Index := Scalar.indexCast arg24
  let c0_388 : Index := 0#32
  let c0_389 : Index := 0#32
  let c2048_390 : Index := 2048#32
  ![v456.toNat, 0, 0, 2048]
def k0_off26 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v467 : Index := Scalar.indexCast arg24
  let c0_397 : Index := 0#32
  let c2304_398 : Index := 2304#32
  ![v467.toNat, 0, 2304]
def k0_off27 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v472 : Index := Scalar.indexCast arg24
  let c0_400 : Index := 0#32
  let c0_401 : Index := 0#32
  let c2304_402 : Index := 2304#32
  ![v472.toNat, 0, 0, 2304]
def k0_off28 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v483 : Index := Scalar.indexCast arg24
  let c0_409 : Index := 0#32
  let c2560_410 : Index := 2560#32
  ![v483.toNat, 0, 2560]
def k0_off29 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v488 : Index := Scalar.indexCast arg24
  let c0_412 : Index := 0#32
  let c0_413 : Index := 0#32
  let c2560_414 : Index := 2560#32
  ![v488.toNat, 0, 0, 2560]
def k0_off30 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v499 : Index := Scalar.indexCast arg24
  let c0_421 : Index := 0#32
  let c2816_422 : Index := 2816#32
  ![v499.toNat, 0, 2816]
def k0_off31 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v504 : Index := Scalar.indexCast arg24
  let c0_424 : Index := 0#32
  let c0_425 : Index := 0#32
  let c2816_426 : Index := 2816#32
  ![v504.toNat, 0, 0, 2816]
def k0_off32 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v515 : Index := Scalar.indexCast arg24
  let c0_433 : Index := 0#32
  let c3072_434 : Index := 3072#32
  ![v515.toNat, 0, 3072]
def k0_off33 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v520 : Index := Scalar.indexCast arg24
  let c0_436 : Index := 0#32
  let c0_437 : Index := 0#32
  let c3072_438 : Index := 3072#32
  ![v520.toNat, 0, 0, 3072]
def k0_off34 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v531 : Index := Scalar.indexCast arg24
  let c0_445 : Index := 0#32
  let c3328_446 : Index := 3328#32
  ![v531.toNat, 0, 3328]
def k0_off35 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v536 : Index := Scalar.indexCast arg24
  let c0_448 : Index := 0#32
  let c0_449 : Index := 0#32
  let c3328_450 : Index := 3328#32
  ![v536.toNat, 0, 0, 3328]
def k0_off36 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v547 : Index := Scalar.indexCast arg24
  let c0_457 : Index := 0#32
  let c3584_458 : Index := 3584#32
  ![v547.toNat, 0, 3584]
def k0_off37 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v552 : Index := Scalar.indexCast arg24
  let c0_460 : Index := 0#32
  let c0_461 : Index := 0#32
  let c3584_462 : Index := 3584#32
  ![v552.toNat, 0, 0, 3584]
def k0_off38 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v563 : Index := Scalar.indexCast arg24
  let c0_469 : Index := 0#32
  let c3840_470 : Index := 3840#32
  ![v563.toNat, 0, 3840]
def k0_off39 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v568 : Index := Scalar.indexCast arg24
  let c0_472 : Index := 0#32
  let c0_473 : Index := 0#32
  let c3840_474 : Index := 3840#32
  ![v568.toNat, 0, 0, 3840]
def k0_off40 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v579 : Index := Scalar.indexCast arg24
  let c0_481 : Index := 0#32
  let c4096_482 : Index := 4096#32
  ![v579.toNat, 0, 4096]
def k0_off41 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v584 : Index := Scalar.indexCast arg24
  let c0_484 : Index := 0#32
  let c0_485 : Index := 0#32
  let c4096_486 : Index := 4096#32
  ![v584.toNat, 0, 0, 4096]
def k0_off42 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v595 : Index := Scalar.indexCast arg24
  let c0_493 : Index := 0#32
  let c4352_494 : Index := 4352#32
  ![v595.toNat, 0, 4352]
def k0_off43 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v600 : Index := Scalar.indexCast arg24
  let c0_496 : Index := 0#32
  let c0_497 : Index := 0#32
  let c4352_498 : Index := 4352#32
  ![v600.toNat, 0, 0, 4352]
def k0_off44 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v611 : Index := Scalar.indexCast arg24
  let c0_505 : Index := 0#32
  let c4608_506 : Index := 4608#32
  ![v611.toNat, 0, 4608]
def k0_off45 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v616 : Index := Scalar.indexCast arg24
  let c0_508 : Index := 0#32
  let c0_509 : Index := 0#32
  let c4608_510 : Index := 4608#32
  ![v616.toNat, 0, 0, 4608]
def k0_off46 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v627 : Index := Scalar.indexCast arg24
  let c0_517 : Index := 0#32
  let c4864_518 : Index := 4864#32
  ![v627.toNat, 0, 4864]
def k0_off47 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v632 : Index := Scalar.indexCast arg24
  let c0_520 : Index := 0#32
  let c0_521 : Index := 0#32
  let c4864_522 : Index := 4864#32
  ![v632.toNat, 0, 0, 4864]
def k0_off48 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v643 : Index := Scalar.indexCast arg24
  let c0_529 : Index := 0#32
  let c5120_530 : Index := 5120#32
  ![v643.toNat, 0, 5120]
def k0_off49 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v648 : Index := Scalar.indexCast arg24
  let c0_532 : Index := 0#32
  let c0_533 : Index := 0#32
  let c5120_534 : Index := 5120#32
  ![v648.toNat, 0, 0, 5120]
def k0_off50 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v659 : Index := Scalar.indexCast arg24
  let c0_541 : Index := 0#32
  let c5376_542 : Index := 5376#32
  ![v659.toNat, 0, 5376]
def k0_off51 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v664 : Index := Scalar.indexCast arg24
  let c0_544 : Index := 0#32
  let c0_545 : Index := 0#32
  let c5376_546 : Index := 5376#32
  ![v664.toNat, 0, 0, 5376]
def k0_off52 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v675 : Index := Scalar.indexCast arg24
  let c0_553 : Index := 0#32
  let c5632_554 : Index := 5632#32
  ![v675.toNat, 0, 5632]
def k0_off53 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v680 : Index := Scalar.indexCast arg24
  let c0_556 : Index := 0#32
  let c0_557 : Index := 0#32
  let c5632_558 : Index := 5632#32
  ![v680.toNat, 0, 0, 5632]
def k0_off54 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let v691 : Index := Scalar.indexCast arg24
  let c0_565 : Index := 0#32
  let c5888_566 : Index := 5888#32
  ![v691.toNat, 0, 5888]
def k0_off55 (k0_t1 : Fin k0_t1_loop.trips) : Fin 4 → Nat :=
  let c0_i32_239 : BitVec 32 := 0#32
  let c1_i32_240 : BitVec 32 := 1#32
  let arg24 : BitVec 32 := Scf.iv c0_i32_239 c1_i32_240 k0_t1
  let v696 : Index := Scalar.indexCast arg24
  let c0_568 : Index := 0#32
  let c0_569 : Index := 0#32
  let c5888_570 : Index := 5888#32
  ![v696.toNat, 0, 0, 5888]
def k0_off56 (k0_t1 : Fin k0_t1_loop.trips) : Fin 2 → Nat :=
  let c0_576 : Index := 0#32
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let c5_i32_266 : BitVec 32 := 5#32
  let v256 : BitVec 32 := Scalar.muli v255 c5_i32_266
  let v257 : BitVec 32 := Scalar.subi arg24 v256
  let c128_i32_276 : BitVec 32 := 128#32
  let v271 : BitVec 32 := Scalar.muli v257 c128_i32_276
  let v272 : BitVec 32 := v271
  let v709 : Index := Scalar.indexCast v272
  ![0, v709.toNat]
def k0_off57 (k0_t1 : Fin k0_t1_loop.trips) : Fin 3 → Nat :=
  let c0_i32_239 : BitVec 32 := 0#32
  let c1_i32_240 : BitVec 32 := 1#32
  let arg24 : BitVec 32 := Scf.iv c0_i32_239 c1_i32_240 k0_t1
  let c0_i32_260 : BitVec 32 := 0#32
  let v240 : BitVec 1 := Scalar.cmpi .sgt arg24 c0_i32_260
  let v241 : BitVec 32 := Scalar.extui v240
  let c0_i32_261 : BitVec 32 := 0#32
  let v242 : BitVec 1 := Scalar.cmpi .slt arg24 c0_i32_261
  let v243 : BitVec 32 := Scalar.extui v242
  let v244 : BitVec 32 := Scalar.subi v241 v243
  let c5_i32_259 : BitVec 32 := 5#32
  let c0_i32_262 : BitVec 32 := 0#32
  let v245 : BitVec 1 := Scalar.cmpi .sgt c5_i32_259 c0_i32_262
  let v246 : BitVec 32 := Scalar.extui v245
  let c0_i32_263 : BitVec 32 := 0#32
  let v247 : BitVec 1 := Scalar.cmpi .slt c5_i32_259 c0_i32_263
  let v248 : BitVec 32 := Scalar.extui v247
  let v249 : BitVec 32 := Scalar.subi v246 v248
  let v250 : BitVec 1 := Scalar.cmpi .ne v244 v249
  let v251 : BitVec 32 := Scalar.remsi arg24 c5_i32_259
  let c0_i32_264 : BitVec 32 := 0#32
  let v252 : BitVec 1 := Scalar.cmpi .ne v251 c0_i32_264
  let v253 : BitVec 1 := Scalar.andi v250 v252
  let v239 : BitVec 32 := Scalar.divsi arg24 c5_i32_259
  let c1_i32_265 : BitVec 32 := 1#32
  let v254 : BitVec 32 := Scalar.subi v239 c1_i32_265
  let v255 : BitVec 32 := Scalar.select v253 v254 v239
  let v8015 : Index := Scalar.indexCast v255
  let c0_3626 : Index := 0#32
  let c5_i32_266 : BitVec 32 := 5#32
  let v256 : BitVec 32 := Scalar.muli v255 c5_i32_266
  let v257 : BitVec 32 := Scalar.subi arg24 v256
  let c128_i32_276 : BitVec 32 := 128#32
  let v271 : BitVec 32 := Scalar.muli v257 c128_i32_276
  let v272 : BitVec 32 := v271
  let v8016 : Index := Scalar.indexCast v272
  ![v8015.toNat, 0, v8016.toNat]
abbrev stage0_0 : Fin 1 → Memref sig .tc .vmem S3x8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S3x640x8 : Shape := ⟨3, ![3, 640, 8]⟩
abbrev S3x640x6144 : Shape := ⟨3, ![3, 640, 6144]⟩
abbrev S3x640 : Shape := ⟨2, ![3, 640]⟩
abbrev S3x640x2x6144 : Shape := ⟨4, ![3, 640, 2, 6144]⟩
abbrev S3x640x2 : Shape := ⟨3, ![3, 640, 2]⟩
abbrev S8x6144 : Shape := ⟨2, ![8, 6144]⟩
abbrev S3x640x1 : Shape := ⟨3, ![3, 640, 1]⟩
abbrev S1920x6144 : Shape := ⟨2, ![1920, 6144]⟩
abbrev S1920x8 : Shape := ⟨2, ![1920, 8]⟩
abbrev S3x640x1x6144 : Shape := ⟨4, ![3, 640, 1, 6144]⟩
abbrev S1x3840 : Shape := ⟨2, ![1, 3840]⟩
abbrev S8x3840 : Shape := ⟨2, ![8, 3840]⟩
abbrev S3x640x2x1 : Shape := ⟨4, ![3, 640, 2, 1]⟩
abbrev S3840x6144 : Shape := ⟨2, ![3840, 6144]⟩
abbrev S8 : Shape := ⟨1, ![8]⟩
abbrev S8x1 : Shape := ⟨2, ![8, 1]⟩

abbrev nBuf : Space → Nat
  | .hbm => 11
  | .vmem => 11
  | .smem => 0
  | _ => 0

abbrev bufTy : (tb : Table) → Fin (tcTables nBuf tb) → BufTy
  | .hbm, ⟨0, _⟩ => ⟨S3x640x8, .f32⟩
  | .hbm, ⟨1, _⟩ => ⟨S3x640x6144, .fp8e5m2⟩
  | .hbm, ⟨2, _⟩ => ⟨S3x640, .f32⟩
  | .hbm, ⟨3, _⟩ => ⟨S3x640x2x6144, .fp8e4m3⟩
  | .hbm, ⟨4, _⟩ => ⟨S3x640x2, .f32⟩
  | .hbm, ⟨5, _⟩ => ⟨S3x640x2, .i32⟩
  | .hbm, ⟨6, _⟩ => ⟨S8x6144, .f32⟩
  | .hbm, ⟨7, _⟩ => ⟨S3x640x8, .f32⟩
  | .hbm, ⟨8, _⟩ => ⟨S8x6144, .f32⟩
  | .hbm, ⟨9, _⟩ => ⟨S3x640x8, .f32⟩
  | .hbm, ⟨10, _⟩ => ⟨S8x6144, .f32⟩
  | .local _ .vmem, ⟨0, _⟩ => ⟨S3x640x8, .f32⟩
  | .local _ .vmem, ⟨1, _⟩ => ⟨S3x640x6144, .fp8e5m2⟩
  | .local _ .vmem, ⟨2, _⟩ => ⟨S3x640, .f32⟩
  | .local _ .vmem, ⟨3, _⟩ => ⟨S3x640x2x6144, .fp8e4m3⟩
  | .local _ .vmem, ⟨4, _⟩ => ⟨S3x640x2, .f32⟩
  | .local _ .vmem, ⟨5, _⟩ => ⟨S3x640x2, .i32⟩
  | .local _ .vmem, ⟨6, _⟩ => ⟨S8x6144, .f32⟩
  | .local _ .vmem, ⟨7, _⟩ => ⟨S3x640x8, .f32⟩
  | .local _ .vmem, ⟨8, _⟩ => ⟨S8x6144, .f32⟩
  | .local _ .vmem, ⟨9, _⟩ => ⟨S3x640x8, .f32⟩
  | .local _ .vmem, ⟨10, _⟩ => ⟨S8x6144, .f32⟩
  | _, _ => ⟨S3x640x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x640x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x6144 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x2x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x640x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KPieces.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The operands -/

/-- The arguments left in HBM. -/
abbrev A0 : Memref sig .tc .hbm S3x8x640 .f32 := Memref.whole main_v0
abbrev A1 : Memref sig .tc .hbm S3x640x6144 .fp8e5m2 := Memref.whole main_arg1
abbrev A2 : Memref sig .tc .hbm S3x640 .f32 := Memref.whole main_arg2
abbrev A3 : Memref sig .tc .hbm S3x2x640x6144 .fp8e4m3 := Memref.whole main_v1
abbrev A4 : Memref sig .tc .hbm S3x2x640 .f32 := Memref.whole main_v2
abbrev A5 : Memref sig .tc .hbm S3x2x640 .i32 := Memref.whole main_v3
abbrev A6 : Memref sig .tc .hbm S8x6144 .f32 := Memref.whole main_arg6
/-- The scratch buffers. -/
abbrev B11 : Memref sig .tc .vmem S3x8x640 .f32 := Memref.whole cc0_scratch0
abbrev B12 : Memref sig .tc .vmem S15x128x6144 .fp8e5m2 := Memref.whole cc0_scratch1
abbrev B13 : Memref sig .tc .vmem S3x640 .f32 := Memref.whole cc0_scratch2
abbrev B14 : Memref sig .tc .vmem S15x2x128x6144 .fp8e4m3 := Memref.whole cc0_scratch3
abbrev B15 : Memref sig .tc .vmem S3x2x640 .f32 := Memref.whole cc0_scratch4
abbrev B16 : Memref sig .tc .vmem S3x2x640 .i32 := Memref.whole cc0_scratch5
abbrev B17 : Memref sig .tc .vmem S8x6144 .f32 := Memref.whole cc0_scratch6
abbrev B18 : Memref sig .tc .vmem S8x6144 .bf16 := Memref.whole cc0_scratch7
abbrev B19 : Memref sig .tc .vmem S24x6144 .f32 := Memref.whole cc0_scratch8
abbrev B20 : Memref sig .tc .vmem S8x128 .f32 := Memref.whole cc0_scratch9

/-- A buffer's contents, by its memref. -/
abbrev BufOf (F : FTy → Type) (c : Dev nD) {sp : Space} {S : Shape} {e : EltTy} (M : Memref sig .tc sp S e) : Type :=
  Buf (Elt F) (M.view.loc (c : Thread nD τ))
/-- A memref's buffer held whole. -/
abbrev pt (c : Dev nD) {sp : Space} {S : Shape} {e : EltTy} (M : Memref sig .tc sp S e) (f : BufOf F c M) : sProp 𝕄 :=
  M.view.loc (c : Thread nD τ) ↦{fullShare} f
/-- A memref's own elements held, of a buffer held piece by piece. -/
abbrev ptS (c : Dev nD) {sp : Space} {S : Shape} {e : EltTy} (M : Memref sig .tc sp S e) (f : BufOf F c M) : sProp 𝕄 :=
  M.view.loc (c : Thread nD τ) ↦[M.view.set]{fullShare} f

/-! ## The fifteen chunks: slot, source and semaphore of each, at the offsets the loop body spells -/

abbrev slotG (r : Fin 3 → ℕ) (h : ∀ a, r a + S1x128x6144.size a ≤ S15x128x6144.size a) : Memref sig .tc .vmem S128x6144 .fp8e5m2 :=
  (B12.slice (Rect.unit (s := S15x128x6144) r S1x128x6144.size h) (fun _ => rfl)).squeeze S128x6144 squeezes_S1x128x6144_S128x6144
abbrev srcG (r : Fin 3 → ℕ) (h : ∀ a, r a + S1x128x6144.size a ≤ S3x640x6144.size a) : Memref sig .tc .hbm S128x6144 .fp8e5m2 :=
  (A1.slice (Rect.unit (s := S3x640x6144) r S1x128x6144.size h) (fun _ => rfl)).squeeze S128x6144 squeezes_S1x128x6144_S128x6144
abbrev slotY (r : Fin 4 → ℕ) (h : ∀ a, r a + S1x2x128x6144.size a ≤ S15x2x128x6144.size a) : Memref sig .tc .vmem S2x128x6144 .fp8e4m3 :=
  (B14.slice (Rect.unit (s := S15x2x128x6144) r S1x2x128x6144.size h) (fun _ => rfl)).squeeze S2x128x6144 squeezes_S1x2x128x6144_S2x128x6144
abbrev srcY (r : Fin 4 → ℕ) (h : ∀ a, r a + S1x2x128x6144.size a ≤ S3x2x640x6144.size a) : Memref sig .tc .hbm S2x128x6144 .fp8e4m3 :=
  (A3.slice (Rect.unit (s := S3x2x640x6144) r S1x2x128x6144.size h) (fun _ => rfl)).squeeze S2x128x6144 squeezes_S1x2x128x6144_S2x128x6144
abbrev cellG (r : Fin 1 → ℕ) (h : ∀ a, r a + S1.size a ≤ S15.size a) : DmaSems sig S_ :=
  (cc0_scratch11.slice (Rect.unit (s := S15) r S1.size h)).squeeze S_ squeezes_S1_S_
abbrev cellY (r : Fin 1 → ℕ) (h : ∀ a, r a + S1.size a ≤ S15.size a) : DmaSems sig S_ :=
  (cc0_scratch12.slice (Rect.unit (s := S15) r S1.size h)).squeeze S_ squeezes_S1_S_

abbrev sG (k : Fin k0_t1_loop.trips) := slotG (k0_off2 k) (k0_off2_inb k)
abbrev hG (k : Fin k0_t1_loop.trips) := srcG (k0_off3 k) (k0_off3_inb k)
abbrev sY (k : Fin k0_t1_loop.trips) := slotY (k0_off4 k) (k0_off4_inb k)
abbrev hY (k : Fin k0_t1_loop.trips) := srcY (k0_off5 k) (k0_off5_inb k)
abbrev cG (k : Fin k0_t1_loop.trips) : SemLoc sig := SemLoc.dma (cellG (k0_off1 k) (k0_off1_inb k)).sem
abbrev cY (k : Fin k0_t1_loop.trips) : SemLoc sig := SemLoc.dma (cellY (k0_off1 k) (k0_off1_inb k)).sem

/-- Chunk `k`'s slot, or its source, held by its own elements at contents given for the whole buffer. -/
abbrev heldG (c : Dev nD) (k : Fin k0_t1_loop.trips) (f : BufOf F c B12) : sProp 𝕄 := ptS c (sG k) f
abbrev heldY (c : Dev nD) (k : Fin k0_t1_loop.trips) (f : BufOf F c B14) : sProp 𝕄 := ptS c (sY k) f
abbrev homeG (c : Dev nD) (k : Fin k0_t1_loop.trips) (f : BufOf F c A1) : sProp 𝕄 := ptS c (hG k) f
abbrev homeY (c : Dev nD) (k : Fin k0_t1_loop.trips) (f : BufOf F c A3) : sProp 𝕄 := ptS c (hY k) f

end Cert.Kernel.Hand
end
-- ==== Proof.KTrip.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import proofs.«01_k».proof.Proof.KPieces

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Chunk `k`'s transfer of `dy` in flight: its slot and its source come back when it is waited for. -/
abbrev flightG (c : Dev nD) (k : Fin k0_t1_loop.trips) (f : BufOf F c B12) (a : BufOf F c A1) : sProp 𝕄 :=
  Transfers.Flight (countersEmb (U := Pipeline.UD sig nD τ)) (c : Thread nD τ) (cG k) () (sG k).view.dmaCredit iprop(heldG c k f ∗ homeG c k a)
/-- Chunk `k`'s transfer of `y` in flight. -/
abbrev flightY (c : Dev nD) (k : Fin k0_t1_loop.trips) (f : BufOf F c B14) (a : BufOf F c A3) : sProp 𝕄 :=
  Transfers.Flight (countersEmb (U := Pipeline.UD sig nD τ)) (c : Thread nD τ) (cY k) () (sY k).view.dmaCredit iprop(heldY c k f ∗ homeY c k a)

set_option maxHeartbeats 0 in
/-- One trip of the chunk loop, at any chunk: what it leaves in the two row outputs and the two accumulators, with the run
    that leaves it. The chunk's two transfers are in flight before it and landed after it. -/
def trip (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f12 : BufOf F c B12) (f13 : BufOf F c B13) (f14 : BufOf F c B14)
    (f15 : BufOf F c B15) (f16 : BufOf F c B16) (f18 : BufOf F c B18) (k : Fin k0_t1_loop.trips)
    (f7 : BufOf F c M7) (f9 : BufOf F c M9) (f19 : BufOf F c B19) (f20 : BufOf F c B20) :
    { w : BufOf F c M7 × BufOf F c M9 × BufOf F c B19 × BufOf F c B20 //
      ∀ (defs₀' : Defs (nD := nD) (τ := τ) (sig := sig) (Val := Elt F) Λ₀) (𝒱₀ : Variants) (W : Waits sig Unit) (v194 : FVec F S8x128 .f32) (Q : PUnit → sProp 𝕄),
      iprop(pt c M7 f7 ∗ pt c M9 f9 ∗ pt c B11 f11 ∗ pt c B13 f13 ∗ pt c B15 f15 ∗ pt c B16 f16 ∗ pt c B18 f18 ∗ pt c B19 f19 ∗ pt c B20 f20
        ∗ flightG c k f12 a1 ∗ flightY c k f14 a3 ∗ owes (c : Thread nD τ) 0 W
        ∗ ((pt c M7 w.1 ∗ pt c M9 w.2.1 ∗ pt c B11 f11 ∗ pt c B13 f13 ∗ pt c B15 f15 ∗ pt c B16 f16 ∗ pt c B18 f18 ∗ pt c B19 w.2.2.1 ∗ pt c B20 w.2.2.2
            ∗ (semVal ((c : Thread nD τ), cG k) 0 ∗ heldG c k f12 ∗ homeG c k a1)
            ∗ (semVal ((c : Thread nD τ), cY k) 0 ∗ heldY c k f14 ∗ homeY c k a3)
            ∗ ∃ W', owes (c : Thread nD τ) 0 W') -∗ Q ()))
      ⊢ wp frame (wpE defs₀' 𝒱₀ (c : Thread nD τ) none) Set.univ
          (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k ()) Q } := by
  refine ⟨⟨?_, ?_, ?_, ?_⟩, fun defs₀' 𝒱₀ W v194 Q => ?run⟩
  case run =>
    iintro ⟨H7, H9, H11, H13, H15, H16, H18, H19, H20, Fg, Fy, HO, Hk⟩
    sl_exec_parts!
    sl_step
    iapply Hk
    isplitl [H7]; · iexact H7
    isplitl [H9]; · iexact H9
    isplitl [H11]; · iexact H11
    isplitl [H13]; · iexact H13
    isplitl [H15]; · iexact H15
    isplitl [H16]; · iexact H16
    isplitl [H18]; · iexact H18
    isplitl [H19]; · iexact H19
    isplitl [H20]; · iexact H20
    isplitl [Fg Fg_dst Fg_src]
    · isplitl [Fg]; · iexact Fg
      isplitl [Fg_dst]; · iexact Fg_dst
      iexact Fg_src
    isplitl [Fy Fy_dst Fy_src]
    · isplitl [Fy]; · iexact Fy
      isplitl [Fy_dst]; · iexact Fy_dst
      iexact Fy_src
    iexists _; iexact HO

end Cert.Kernel.Hand
end
-- ==== Proof.KFamily.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import proofs.«01_k».proof.Proof.KTrip
public import Idealize.ShloMosaic.Lib.Pipeline.Value
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The chunks, listed -/

theorem bigSep_chunks (Ψ : Fin k0_t1_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩ ∗ Ψ ⟨8, by decide⟩ ∗ Ψ ⟨9, by decide⟩ ∗ Ψ ⟨10, by decide⟩ ∗ Ψ ⟨11, by decide⟩ ∗ Ψ ⟨12, by decide⟩ ∗ Ψ ⟨13, by decide⟩ ∗ Ψ ⟨14, by decide⟩) := by
  rw [BI.bigSep_eq_bigSepL_of_eq ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩] : List (Fin k0_t1_loop.trips)) (by decide) (by decide)]; rfl

/-! ## What lands in the two rings: chunk `5 b + s` is rows `128 s … 128 s + 127` of batch `b` -/

/-- Where the ring's element comes from. -/
def gatherG (i : S15x128x6144.Idx) : S3x640x6144.Idx :=
  ValueIdx.ix3 (⟨(i 0).val / 5, by have := (i 0).isLt; change _ < 15 at this; omega⟩ : Fin 3)
    (⟨128 * ((i 0).val % 5) + (i 1).val, by have := (i 1).isLt; change _ < 128 at this; omega⟩ : Fin 640) (i 2)
def gatherY (i : S15x2x128x6144.Idx) : S3x2x640x6144.Idx :=
  ValueIdx.ix4 (⟨(i 0).val / 5, by have := (i 0).isLt; change _ < 15 at this; omega⟩ : Fin 3) (i 1)
    (⟨128 * ((i 0).val % 5) + (i 2).val, by have := (i 2).isLt; change _ < 128 at this; omega⟩ : Fin 640) (i 3)
/-- The `dy` ring with every chunk landed, and the `y` ring. -/
def ringG (c : Dev nD) (a : BufOf F c A1) : BufOf F c B12 := fun i => a (gatherG i)
def ringY (c : Dev nD) (a : BufOf F c A3) : BufOf F c B14 := fun i => a (gatherY i)

theorem k0_off3_eq : ∀ k : Fin k0_t1_loop.trips, k0_off3 k = ![k.val / 5, 128 * (k.val % 5), 0] := by decide +kernel
theorem k0_off5_eq : ∀ k : Fin k0_t1_loop.trips, k0_off5 k = ![k.val / 5, 0, 128 * (k.val % 5), 0] := by decide +kernel

theorem read_ringG (c : Dev nD) (k : Fin k0_t1_loop.trips) (a : BufOf F c A1) :
    (sG k).view.read (Elt F) (ringG c a) = (hG k).view.read (Elt F) a := by
  have hc : S1x128x6144.ShapeCasts S128x6144 := by decide
  show shapeCast S128x6144 (B12.view.readAt (Elt F) (Rect.unit (s := S15x128x6144) (k0_off2 k) S1x128x6144.size (k0_off2_inb k)).toLoadRect (ringG c a)) hc
    = shapeCast S128x6144 (A1.view.readAt (Elt F) (Rect.unit (s := S3x640x6144) (k0_off3 k) S1x128x6144.size (k0_off3_inb k)).toLoadRect a) hc
  refine congrArg (fun v => shapeCast S128x6144 v hc) ?_
  funext x
  change S1x128x6144.Idx at x
  show a (gatherG ((Rect.unit (s := S15x128x6144) (k0_off2 k) S1x128x6144.size (k0_off2_inb k)).toLoadRect.idx x))
    = a ((Rect.unit (s := S3x640x6144) (k0_off3 k) S1x128x6144.size (k0_off3_inb k)).toLoadRect.idx x)
  refine congrArg a ?_
  have hk : k.val < 15 := k.isLt
  have h0 : (x 0).val < 1 := (x 0).isLt
  have h1 : (x 1).val < 128 := (x 1).isLt
  funext d
  apply Fin.ext
  match d with
  | ⟨0, _⟩ =>
    show (k0_off2 k 0 + 1 * (x 0).val) / 5 = k0_off3 k 0 + 1 * (x 0).val
    rw [k0_off2_eq, k0_off3_eq]; show (k.val + 1 * (x 0).val) / 5 = k.val / 5 + 1 * (x 0).val; omega
  | ⟨1, _⟩ =>
    show 128 * ((k0_off2 k 0 + 1 * (x 0).val) % 5) + (k0_off2 k 1 + 1 * (x 1).val) = k0_off3 k 1 + 1 * (x 1).val
    rw [k0_off2_eq, k0_off3_eq]; show 128 * ((k.val + 1 * (x 0).val) % 5) + (0 + 1 * (x 1).val) = 128 * (k.val % 5) + 1 * (x 1).val; omega
  | ⟨2, _⟩ =>
    show k0_off2 k 2 + 1 * (x 2).val = k0_off3 k 2 + 1 * (x 2).val
    rw [k0_off2_eq, k0_off3_eq]; rfl

theorem read_ringY (c : Dev nD) (k : Fin k0_t1_loop.trips) (a : BufOf F c A3) :
    (sY k).view.read (Elt F) (ringY c a) = (hY k).view.read (Elt F) a := by
  have hc : S1x2x128x6144.ShapeCasts S2x128x6144 := by decide
  show shapeCast S2x128x6144 (B14.view.readAt (Elt F) (Rect.unit (s := S15x2x128x6144) (k0_off4 k) S1x2x128x6144.size (k0_off4_inb k)).toLoadRect (ringY c a)) hc
    = shapeCast S2x128x6144 (A3.view.readAt (Elt F) (Rect.unit (s := S3x2x640x6144) (k0_off5 k) S1x2x128x6144.size (k0_off5_inb k)).toLoadRect a) hc
  refine congrArg (fun v => shapeCast S2x128x6144 v hc) ?_
  funext x
  change S1x2x128x6144.Idx at x
  show a (gatherY ((Rect.unit (s := S15x2x128x6144) (k0_off4 k) S1x2x128x6144.size (k0_off4_inb k)).toLoadRect.idx x))
    = a ((Rect.unit (s := S3x2x640x6144) (k0_off5 k) S1x2x128x6144.size (k0_off5_inb k)).toLoadRect.idx x)
  refine congrArg a ?_
  have hk : k.val < 15 := k.isLt
  have h0 : (x 0).val < 1 := (x 0).isLt
  have h2 : (x 2).val < 128 := (x 2).isLt
  funext d
  apply Fin.ext
  match d with
  | ⟨0, _⟩ =>
    show (k0_off4 k 0 + 1 * (x 0).val) / 5 = k0_off5 k 0 + 1 * (x 0).val
    rw [k0_off4_eq, k0_off5_eq]; show (k.val + 1 * (x 0).val) / 5 = k.val / 5 + 1 * (x 0).val; omega
  | ⟨1, _⟩ =>
    show k0_off4 k 1 + 1 * (x 1).val = k0_off5 k 1 + 1 * (x 1).val
    rw [k0_off4_eq, k0_off5_eq]; rfl
  | ⟨2, _⟩ =>
    show 128 * ((k0_off4 k 0 + 1 * (x 0).val) % 5) + (k0_off4 k 2 + 1 * (x 2).val) = k0_off5 k 2 + 1 * (x 2).val
    rw [k0_off4_eq, k0_off5_eq]; show 128 * ((k.val + 1 * (x 0).val) % 5) + (0 + 1 * (x 2).val) = 128 * (k.val % 5) + 1 * (x 2).val; omega
  | ⟨3, _⟩ =>
    show k0_off4 k 3 + 1 * (x 3).val = k0_off5 k 3 + 1 * (x 3).val
    rw [k0_off4_eq, k0_off5_eq]; rfl

/-- Contents that a view reads alike agree on the view's own elements. -/
theorem agree_of_read {sp : Space} {S : Shape} {e : EltTy} (v : View sig .tc sp S e) (f g : v.ty.Contents (Elt F))
    (h : v.read (Elt F) f = v.read (Elt F) g) : ∀ i ∈ v.set, f i = g i := by
  intro i hi
  obtain ⟨x, rfl⟩ := View.exists_emb_of_mem_set v hi
  have hx := congrFun h x
  unfold View.read at hx
  exact cast_inj _ |>.mp hx

/-- A slot filled with its source's elements is the slot of the ring with every chunk landed. -/
theorem held_landedG (c : Dev nD) (k : Fin k0_t1_loop.trips) (f : BufOf F c B12) (a : BufOf F c A1) :
    (heldG c k ((sG k).view.writes (Elt F) f [⟨Rect.whole S128x6144, ReadAs.same.apply ((hG k).view.read (Elt F) a)⟩]) : sProp 𝕄)
      = heldG c k (ringG c a) := by
  exact pointsTo_congr (agree_of_read (sG k).view _ _ ((View.read_writes_whole (sG k).view f (ReadAs.same.apply ((hG k).view.read (Elt F) a))).trans (read_ringG c k a).symm))
theorem held_landedY (c : Dev nD) (k : Fin k0_t1_loop.trips) (f : BufOf F c B14) (a : BufOf F c A3) :
    (heldY c k ((sY k).view.writes (Elt F) f [⟨Rect.whole S2x128x6144, ReadAs.same.apply ((hY k).view.read (Elt F) a)⟩]) : sProp 𝕄)
      = heldY c k (ringY c a) := by
  exact pointsTo_congr (agree_of_read (sY k).view _ _ ((View.read_writes_whole (sY k).view f (ReadAs.same.apply ((hY k).view.read (Elt F) a))).trans (read_ringY c k a).symm))

/-! ## The chunks' family: in flight before their trip, landed after it -/

abbrev freeG (c : Dev nD) (k : Fin k0_t1_loop.trips) (f : BufOf F c B12) (a : BufOf F c A1) : sProp 𝕄 :=
  iprop(semVal ((c : Thread nD τ), cG k) 0 ∗ heldG c k f ∗ homeG c k a)
abbrev freeY (c : Dev nD) (k : Fin k0_t1_loop.trips) (f : BufOf F c B14) (a : BufOf F c A3) : sProp 𝕄 :=
  iprop(semVal ((c : Thread nD τ), cY k) 0 ∗ heldY c k f ∗ homeY c k a)
def Φc (c : Dev nD) (a1 : BufOf F c A1) (a3 : BufOf F c A3) (k : Fin k0_t1_loop.trips) (b : Bool) : sProp 𝕄 :=
  if b = true then iprop(flightG c k (ringG c a1) a1 ∗ flightY c k (ringY c a3) a3)
  else iprop(freeG c k (ringG c a1) a1 ∗ freeY c k (ringY c a3) a3)
/-- Before trip `k` the chunks from `k` on are in flight. -/
def stK (k : ℕ) : Fin k0_t1_loop.trips → Bool := fun j => decide (k ≤ j.val)
theorem stK_self (k : Fin k0_t1_loop.trips) : stK k.val k = true := by simp [stK]
theorem stK_succ (k : Fin k0_t1_loop.trips) : Function.update (stK k.val) k false = stK (k.val + 1) := by
  funext j
  by_cases hj : j = k
  · subst hj; rw [Function.update_self]; simp [stK]
  · rw [Function.update_of_ne hj]
    have hv : j.val ≠ k.val := fun h => hj (Fin.ext h)
    simp only [stK]
    by_cases h : k.val ≤ j.val
    · have : k.val + 1 ≤ j.val := by omega
      simp [h, this]
    · have : ¬ (k.val + 1 ≤ j.val) := by omega
      simp [h, this]

theorem pack_chunk (c : Dev nD) (k : Fin k0_t1_loop.trips) (f12 : BufOf F c B12) (f14 : BufOf F c B14) (a1 : BufOf F c A1) (a3 : BufOf F c A3) :
    iprop(flightG c k ((sG k).view.writes (Elt F) f12 [⟨Rect.whole S128x6144, ReadAs.same.apply ((hG k).view.read (Elt F) a1)⟩]) a1
      ∗ flightY c k ((sY k).view.writes (Elt F) f14 [⟨Rect.whole S2x128x6144, ReadAs.same.apply ((hY k).view.read (Elt F) a3)⟩]) a3)
    ⊢ Φc c a1 a3 k (stK 0 k) := by
  unfold flightG flightY
  rw [held_landedG, held_landedY]
  simp only [Φc, stK, Nat.zero_le, decide_true, ↓reduceIte]
  exact BI.BIBase.Entails.rfl

end Cert.Kernel.Hand
end
-- ==== Proof.KLoop.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import proofs.«01_k».proof.Proof.KFamily
public import proofs.«01_k».proof.Proof.Gen.Kernel.Loops

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Steps taken one after another -/

/-- The first `m` of `n` steps, in order. -/
def iter {α : Type} {n : ℕ} (s : Fin n → α → α) : ℕ → α → α
  | 0, x => x
  | m + 1, x => if h : m < n then s ⟨m, h⟩ (iter s m x) else iter s m x
theorem iter_succ {α : Type} {n : ℕ} (s : Fin n → α → α) (k : Fin n) (x : α) : iter s (k.val + 1) x = s k (iter s k.val x) :=
  dif_pos k.isLt

/-! ## The loop -/

section Loop
attribute [local irreducible] trip
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)

/-- What trip `k` leaves in the two row outputs and the two accumulators. -/
def tripOut (k : Fin k0_t1_loop.trips) (x : BufOf F c M7 × BufOf F c M9 × BufOf F c B19 × BufOf F c B20) :
    BufOf F c M7 × BufOf F c M9 × BufOf F c B19 × BufOf F c B20 :=
  (trip c M7 h7 M8 h8 M9 h9 M10 h10 a1 a3 f11 (ringG c a1) f13 (ringY c a3) f15 f16 f18 k x.1 x.2.1 x.2.2.1 x.2.2.2).1

theorem tripOut_run (k : Fin k0_t1_loop.trips) (x : BufOf F c M7 × BufOf F c M9 × BufOf F c B19 × BufOf F c B20)
    (𝒱₀ : Variants) (W : Waits sig Unit) (v194 : FVec F S8x128 .f32) (Q : PUnit → sProp 𝕄) :
    iprop(pt c M7 x.1 ∗ pt c M9 x.2.1 ∗ pt c B11 f11 ∗ pt c B13 f13 ∗ pt c B15 f15 ∗ pt c B16 f16 ∗ pt c B18 f18 ∗ pt c B19 x.2.2.1 ∗ pt c B20 x.2.2.2
        ∗ flightG c k (ringG c a1) a1 ∗ flightY c k (ringY c a3) a3 ∗ owes (c : Thread nD τ) 0 W
        ∗ ((pt c M7 (tripOut c M7 h7 M8 h8 M9 h9 M10 h10 a1 a3 f11 f13 f15 f16 f18 k x).1 ∗ pt c M9 (tripOut c M7 h7 M8 h8 M9 h9 M10 h10 a1 a3 f11 f13 f15 f16 f18 k x).2.1
            ∗ pt c B11 f11 ∗ pt c B13 f13 ∗ pt c B15 f15 ∗ pt c B16 f16 ∗ pt c B18 f18
            ∗ pt c B19 (tripOut c M7 h7 M8 h8 M9 h9 M10 h10 a1 a3 f11 f13 f15 f16 f18 k x).2.2.1 ∗ pt c B20 (tripOut c M7 h7 M8 h8 M9 h9 M10 h10 a1 a3 f11 f13 f15 f16 f18 k x).2.2.2
            ∗ (semVal ((c : Thread nD τ), cG k) 0 ∗ heldG c k (ringG c a1) ∗ homeG c k a1)
            ∗ (semVal ((c : Thread nD τ), cY k) 0 ∗ heldY c k (ringY c a3) ∗ homeY c k a3)
            ∗ ∃ W', owes (c : Thread nD τ) 0 W') -∗ Q ()))
      ⊢ wp frame (wpE defs₀ 𝒱₀ (c : Thread nD τ) none) Set.univ
          (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k ()) Q :=
  (trip c M7 h7 M8 h8 M9 h9 M10 h10 a1 a3 f11 (ringG c a1) f13 (ringY c a3) f15 f16 f18 k x.1 x.2.1 x.2.2.1 x.2.2.2).2 defs₀ 𝒱₀ W v194 Q

/-- What the trips before `n` leave. -/
abbrev after (n : ℕ) (x : BufOf F c M7 × BufOf F c M9 × BufOf F c B19 × BufOf F c B20) :=
  iter (tripOut c M7 h7 M8 h8 M9 h9 M10 h10 a1 a3 f11 f13 f15 f16 f18) n x

attribute [local irreducible] tripOut

variable (x0 : BufOf F c M7 × BufOf F c M9 × BufOf F c B19 × BufOf F c B20)

/-- Before trip `k`. -/
def inv (k : ℕ) (_ : PUnit) : sProp 𝕄 :=
  iprop(Ring.AtW (Φc c a1 a3) (stK k) ∗ (∃ W, owes (c : Thread nD τ) 0 W)
    ∗ pt c M7 (after c M7 h7 M8 h8 M9 h9 M10 h10 a1 a3 f11 f13 f15 f16 f18 k x0).1 ∗ pt c M9 (after c M7 h7 M8 h8 M9 h9 M10 h10 a1 a3 f11 f13 f15 f16 f18 k x0).2.1
    ∗ pt c B11 f11 ∗ pt c B13 f13 ∗ pt c B15 f15 ∗ pt c B16 f16 ∗ pt c B18 f18
    ∗ pt c B19 (after c M7 h7 M8 h8 M9 h9 M10 h10 a1 a3 f11 f13 f15 f16 f18 k x0).2.2.1 ∗ pt c B20 (after c M7 h7 M8 h8 M9 h9 M10 h10 a1 a3 f11 f13 f15 f16 f18 k x0).2.2.2)

theorem inv_step (𝒱₀ : Variants) (v194 : FVec F S8x128 .f32) (k : Fin k0_t1_loop.trips) (acc : PUnit) :
    inv c M7 h7 M8 h8 M9 h9 M10 h10 a1 a3 f11 f13 f15 f16 f18 x0 k.val acc
      ⊢ wp frame (wpE defs₀ 𝒱₀ (c : Thread nD τ) none) Set.univ (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k acc)
        (inv c M7 h7 M8 h8 M9 h9 M10 h10 a1 a3 f11 f13 f15 f16 f18 x0 (k.val + 1)) := by
  unfold inv after
  rw [← stK_succ k, iter_succ, Ring.AtW_focus (Φc c a1 a3) (stK k.val) k, stK_self]
  iintro ⟨⟨Hk, Hrest⟩, ⟨%W, HO⟩, H7, H9, H11, H13, H15, H16, H18, H19, H20⟩
  simp only [Φc, ↓reduceIte]
  icases Hk with ⟨Fg, Fy⟩
  iapply (tripOut_run c M7 h7 M8 h8 M9 h9 M10 h10 a1 a3 f11 f13 f15 f16 f18 k _ 𝒱₀ W v194 _)
  isplitl [H7]; · iexact H7
  isplitl [H9]; · iexact H9
  isplitl [H11]; · iexact H11
  isplitl [H13]; · iexact H13
  isplitl [H15]; · iexact H15
  isplitl [H16]; · iexact H16
  isplitl [H18]; · iexact H18
  isplitl [H19]; · iexact H19
  isplitl [H20]; · iexact H20
  isplitl [Fg]; · iexact Fg
  isplitl [Fy]; · iexact Fy
  isplitl [HO]; · iexact HO
  iintro ⟨H7, H9, H11, H13, H15, H16, H18, H19, H20, Fg, Fy, HO⟩
  isplitl [Hrest Fg Fy]
  · iapply (Ring.AtW_update (Φc c a1 a3) (stK k.val) k false)
    isplitr [Hrest]
    · simp only [Φc, Bool.false_eq_true, ↓reduceIte]
      isplitl [Fg]; · iexact Fg
      iexact Fy
    · iexact Hrest
  isplitl [HO]; · iexact HO
  isplitl [H7]; · iexact H7
  isplitl [H9]; · iexact H9
  isplitl [H11]; · iexact H11
  isplitl [H13]; · iexact H13
  isplitl [H15]; · iexact H15
  isplitl [H16]; · iexact H16
  isplitl [H18]; · iexact H18
  isplitl [H19]; · iexact H19
  iexact H20

set_option maxHeartbeats 4000000 in
set_option warn.classDefReducibility false in
/-- The chunk loop's invariant. -/
def loopInv (𝒱₀ : Variants) (v194 : FVec F S8x128 .f32) :
    LoopInvTy_k0_t1 (F := F) Unit ℕ (Pipeline.UD sig nD τ) ℕ 𝒱₀ c none Set.univ A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 where
  inv := inv c M7 h7 M8 h8 M9 h9 M10 h10 a1 a3 f11 f13 f15 f16 f18 x0
  step := by
    intro k acc
    exact inv_step c M7 h7 M8 h8 M9 h9 M10 h10 a1 a3 f11 f13 f15 f16 f18 x0 𝒱₀ v194 k acc

end Loop

end Cert.Kernel.Hand
end
-- ==== Proof.KBody.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.VecWindow
public import proofs.«01_k».proof.Proof.KLoop

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A whole buffer overwritten by a whole payload holds the payload. -/
theorem pt_landed (c : Dev nD) (b : Ref sig .tc) (f w : b.ty.Contents (Elt F)) :
    (pt c (Memref.whole b) (View.write (Elt F) (Memref.whole b).view f w Finset.univ) : sProp 𝕄) ⊢ pt c (Memref.whole b) w := by
  have h : View.write (Elt F) (Memref.whole b).view f w Finset.univ = w := View.write_whole_univ b f w
  rw [h]

/-- A store of the buffer's own extents leaves its payload. -/
theorem writes_full {sp : Space} {S : Shape} {e : EltTy} (v : View sig .tc sp S e) (f : v.ty.Contents (Elt F)) (w : v.ty.Contents (Elt F))
    {off : Fin S.rank → ℕ} (inb : ∀ a, off a + S.size a ≤ S.size a) (p : (Rect.unit off S.size inb).shape.Idx → Elt F e)
    (hw : v.read (Elt F) w = p) (hv : v.set = Finset.univ) : v.writes (Elt F) f [⟨Rect.unit off S.size inb, p⟩] = w := by
  funext i
  exact agree_of_read v _ _ ((View.read_writes_full v f inb p []).trans hw.symm) i (hv ▸ Finset.mem_univ i)

theorem bigSep_six {n : ℕ} (A B C D E G : Fin n → sProp 𝕄) :
    bigSep Finset.univ (fun k => iprop((A k ∗ B k ∗ C k) ∗ (D k ∗ E k ∗ G k)))
      = iprop((bigSep Finset.univ A ∗ bigSep Finset.univ B ∗ bigSep Finset.univ C) ∗ (bigSep Finset.univ D ∗ bigSep Finset.univ E ∗ bigSep Finset.univ G)) := by
  rw [bigSep_sep' Finset.univ (fun k => iprop(A k ∗ B k ∗ C k)) (fun k => iprop(D k ∗ E k ∗ G k)),
    bigSep_sep' Finset.univ A (fun k => iprop(B k ∗ C k)), bigSep_sep' Finset.univ B C,
    bigSep_sep' Finset.univ D (fun k => iprop(E k ∗ G k)), bigSep_sep' Finset.univ E G]

/-- Every chunk's cell at zero, every slot landed, every source handed back. -/
def backG (c : Dev nD) (a1 : BufOf F c A1) : sProp 𝕄 :=
  iprop(bigSep Finset.univ (fun k => semVal ((c : Thread nD τ), cG k) 0) ∗ bigSep Finset.univ (fun k => heldG c k (ringG c a1)) ∗ bigSep Finset.univ (fun k => homeG c k a1))
def backY (c : Dev nD) (a3 : BufOf F c A3) : sProp 𝕄 :=
  iprop(bigSep Finset.univ (fun k => semVal ((c : Thread nD τ), cY k) 0) ∗ bigSep Finset.univ (fun k => heldY c k (ringY c a3)) ∗ bigSep Finset.univ (fun k => homeY c k a3))

/-- After the last trip every chunk is landed. -/
theorem unpack_all (c : Dev nD) (a1 : BufOf F c A1) (a3 : BufOf F c A3) :
    Ring.AtW (Φc c a1 a3) (stK k0_t1_loop.trips)
      ⊢ (iprop(backG c a1
          ∗ backY c a3) : sProp 𝕄) := by
  unfold Ring.AtW backG backY
  rw [show (fun k => Φc c a1 a3 k (stK k0_t1_loop.trips k)) = fun k => iprop((semVal ((c : Thread nD τ), cG k) 0 ∗ heldG c k (ringG c a1) ∗ homeG c k a1) ∗ (semVal ((c : Thread nD τ), cY k) 0 ∗ heldY c k (ringY c a3) ∗ homeY c k a3)) from by
    funext k
    have hk : ¬ k0_t1_loop.trips ≤ k.val := Nat.not_le.mpr k.isLt
    simp only [Φc, stK, hk, decide_false, Bool.false_eq_true, ↓reduceIte]]
  rw [bigSep_six]

set_option maxHeartbeats 0 in
/-- One run of the kernel's body, with the contents it leaves in the two late outputs. -/
def bodyRun (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (f7 : BufOf F c M7) (f8 : BufOf F c M8) (f9 : BufOf F c M9) (f10 : BufOf F c M10)
    (a0 : BufOf F c A0) (a1 : BufOf F c A1) (a2 : BufOf F c A2) (a3 : BufOf F c A3) (a4 : BufOf F c A4) (a5 : BufOf F c A5) (a6 : BufOf F c A6) :
    { w : BufOf F c M8 × BufOf F c M10 // ∀ (𝒱₀ : Variants) (W : Waits sig Unit)
      (f11 : BufOf F c B11) (f12 : BufOf F c B12) (f13 : BufOf F c B13) (f14 : BufOf F c B14) (f15 : BufOf F c B15) (f16 : BufOf F c B16)
      (f17 : BufOf F c B17) (f18 : BufOf F c B18) (f19 : BufOf F c B19) (f20 : BufOf F c B20) (Q : PUnit → sProp 𝕄),
    iprop(pt c A0 a0 ∗ pt c A2 a2 ∗ pt c A4 a4 ∗ pt c A5 a5 ∗ pt c A6 a6
      ∗ pt c M7 f7 ∗ pt c M8 f8 ∗ pt c M9 f9 ∗ pt c M10 f10
      ∗ pt c B11 f11 ∗ pt c B13 f13 ∗ pt c B15 f15 ∗ pt c B16 f16 ∗ pt c B17 f17 ∗ pt c B18 f18 ∗ pt c B19 f19 ∗ pt c B20 f20
      ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
      ∗ bigSep Finset.univ (fun k => heldG c k f12) ∗ bigSep Finset.univ (fun k => heldY c k f14)
      ∗ bigSep Finset.univ (fun k => homeG c k a1) ∗ bigSep Finset.univ (fun k => homeY c k a3)
      ∗ owes (c : Thread nD τ) 0 W
      ∗ ((pt c A0 a0 ∗ pt c A2 a2 ∗ pt c A4 a4 ∗ pt c A5 a5 ∗ pt c A6 a6
        ∗ pt c M7 (after c M7 h7 M8 h8 M9 h9 M10 h10 a1 a3 a0 a2 a4 a5 (k0_pay1404 a6) k0_t1_loop.trips (f7, f9, k0_pay1401, k0_pay1403 k0_pay1402)).1 ∗ pt c M8 w.1
        ∗ pt c M9 (after c M7 h7 M8 h8 M9 h9 M10 h10 a1 a3 a0 a2 a4 a5 (k0_pay1404 a6) k0_t1_loop.trips (f7, f9, k0_pay1401, k0_pay1403 k0_pay1402)).2.1 ∗ pt c M10 w.2
        ∗ (∃ f, pt c B11 f) ∗ (∃ f, pt c B13 f) ∗ (∃ f, pt c B15 f) ∗ (∃ f, pt c B16 f) ∗ (∃ f, pt c B17 f) ∗ (∃ f, pt c B18 f) ∗ (∃ f, pt c B19 f) ∗ (∃ f, pt c B20 f)
        ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
        ∗ backG c a1
        ∗ backY c a3
        ∗ ∃ W', owes (c : Thread nD τ) 0 W') -∗ Q ()))
    ⊢ wp frame (wpE defs₀ 𝒱₀ (c : Thread nD τ) none) Set.univ
        (cc0__body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12) Q } := by
  refine ⟨⟨?_, ?_⟩, fun 𝒱₀ W f11 f12 f13 f14 f15 f16 f17 f18 f19 f20 Q => ?run⟩
  case run =>
    rw [bigSep_chunks (fun k => heldG c k f12), bigSep_chunks (fun k => heldY c k f14), bigSep_chunks (fun k => homeG c k a1), bigSep_chunks (fun k => homeY c k a3)]
    iintro ⟨Ha0, Ha2, Ha4, Ha5, Ha6, H7, H8, H9, H10, H11, H13, H15, H16, H17, H18, H19, H20, ⟨Hs0, Hs1, Hs2, Hs3, Hs4, Hx0, Hx1, Hx2, Hx3, Hx4, Hx5, Hx6, Hx7, Hx8, Hx9, Hx10, Hx11, Hx12, Hx13, Hx14, Hy0, Hy1, Hy2, Hy3, Hy4, Hy5, Hy6, Hy7, Hy8, Hy9, Hy10, Hy11, Hy12, Hy13, Hy14⟩, ⟨Sg0, Sg1, Sg2, Sg3, Sg4, Sg5, Sg6, Sg7, Sg8, Sg9, Sg10, Sg11, Sg12, Sg13, Sg14⟩, ⟨Sy0, Sy1, Sy2, Sy3, Sy4, Sy5, Sy6, Sy7, Sy8, Sy9, Sy10, Sy11, Sy12, Sy13, Sy14⟩, ⟨Rg0, Rg1, Rg2, Rg3, Rg4, Rg5, Rg6, Rg7, Rg8, Rg9, Rg10, Rg11, Rg12, Rg13, Rg14⟩, ⟨Ry0, Ry1, Ry2, Ry3, Ry4, Ry5, Ry6, Ry7, Ry8, Ry9, Ry10, Ry11, Ry12, Ry13, Ry14⟩, HO, Hk⟩
    sl_exec_parts
    ihave HA : Ring.AtW (Φc c a1 a3) (stK 0) $$ [Hx0 Hy0 Hx1 Hy1 Hx2 Hy2 Hx3 Hy3 Hx4 Hy4 Hx5 Hy5 Hx6 Hy6 Hx7 Hy7 Hx8 Hy8 Hx9 Hy9 Hx10 Hy10 Hx11 Hy11 Hx12 Hy12 Hx13 Hy13 Hx14 Hy14]
    · unfold Ring.AtW
      rw [bigSep_chunks]
      isplitl [Hx0 Hy0]
      · iapply (pack_chunk c _ f12 f14 a1 a3)
        isplitl [Hx0]
        · iexact Hx0
        iexact Hy0
      isplitl [Hx1 Hy1]
      · iapply (pack_chunk c _ f12 f14 a1 a3)
        isplitl [Hx1]
        · iexact Hx1
        iexact Hy1
      isplitl [Hx2 Hy2]
      · iapply (pack_chunk c _ f12 f14 a1 a3)
        isplitl [Hx2]
        · iexact Hx2
        iexact Hy2
      isplitl [Hx3 Hy3]
      · iapply (pack_chunk c _ f12 f14 a1 a3)
        isplitl [Hx3]
        · iexact Hx3
        iexact Hy3
      isplitl [Hx4 Hy4]
      · iapply (pack_chunk c _ f12 f14 a1 a3)
        isplitl [Hx4]
        · iexact Hx4
        iexact Hy4
      isplitl [Hx5 Hy5]
      · iapply (pack_chunk c _ f12 f14 a1 a3)
        isplitl [Hx5]
        · iexact Hx5
        iexact Hy5
      isplitl [Hx6 Hy6]
      · iapply (pack_chunk c _ f12 f14 a1 a3)
        isplitl [Hx6]
        · iexact Hx6
        iexact Hy6
      isplitl [Hx7 Hy7]
      · iapply (pack_chunk c _ f12 f14 a1 a3)
        isplitl [Hx7]
        · iexact Hx7
        iexact Hy7
      isplitl [Hx8 Hy8]
      · iapply (pack_chunk c _ f12 f14 a1 a3)
        isplitl [Hx8]
        · iexact Hx8
        iexact Hy8
      isplitl [Hx9 Hy9]
      · iapply (pack_chunk c _ f12 f14 a1 a3)
        isplitl [Hx9]
        · iexact Hx9
        iexact Hy9
      isplitl [Hx10 Hy10]
      · iapply (pack_chunk c _ f12 f14 a1 a3)
        isplitl [Hx10]
        · iexact Hx10
        iexact Hy10
      isplitl [Hx11 Hy11]
      · iapply (pack_chunk c _ f12 f14 a1 a3)
        isplitl [Hx11]
        · iexact Hx11
        iexact Hy11
      isplitl [Hx12 Hy12]
      · iapply (pack_chunk c _ f12 f14 a1 a3)
        isplitl [Hx12]
        · iexact Hx12
        iexact Hy12
      isplitl [Hx13 Hy13]
      · iapply (pack_chunk c _ f12 f14 a1 a3)
        isplitl [Hx13]
        · iexact Hx13
        iexact Hy13
      iapply (pack_chunk c _ f12 f14 a1 a3)
      isplitl [Hx14]
      · iexact Hx14
      iexact Hy14
    ihave H11 : pt c B11 a0 $$ [H11]
    · iapply (pt_landed c B11.view.ref f11 a0); iexact H11
    ihave H13 : pt c B13 a2 $$ [H13]
    · iapply (pt_landed c B13.view.ref f13 a2); iexact H13
    ihave H15 : pt c B15 a4 $$ [H15]
    · iapply (pt_landed c B15.view.ref f15 a4); iexact H15
    ihave H16 : pt c B16 a5 $$ [H16]
    · iapply (pt_landed c B16.view.ref f16 a5); iexact H16
    ihave H17 : pt c B17 a6 $$ [H17]
    · iapply (pt_landed c B17.view.ref f17 a6); iexact H17
    have e18 : B18.view.writes (Elt F) B18.view.junk (bodyRun.sl.H18_1 c a6 f17) = (k0_pay1404 a6 : BufOf F c B18) := by
      refine writes_full B18.view B18.view.junk (k0_pay1404 a6 : BufOf F c B18) inb_S8x6144_S8x6144_0_0 _ ?_ (View.set_whole _)
      refine congrArg k0_pay1404 (Eq.symm ?_)
      exact (View.readAt_full B17.view _ inb_S8x6144_S8x6144_0_0).trans (View.write_whole_univ B17.view.ref f17 a6)
    rw [e18]
    have e19 : B19.view.writes (Elt F) B19.view.junk bodyRun.sl.H19_1 = (k0_pay1401 : BufOf F c B19) :=
      writes_full B19.view B19.view.junk (k0_pay1401 : BufOf F c B19) inb_S24x6144_S24x6144_0_0 _ rfl (View.set_whole _)
    rw [e19]
    have e20 : B20.view.writes (Elt F) B20.view.junk bodyRun.sl.H20_1 = (k0_pay1403 k0_pay1402 : BufOf F c B20) :=
      writes_full B20.view B20.view.junk (k0_pay1403 k0_pay1402 : BufOf F c B20) inb_S8x128_S8x128_0_0 _ rfl (View.set_whole _)
    rw [e20]
    let L := loopInv c M7 h7 M8 h8 M9 h9 M10 h10 a1 a3 a0 a2 a4 a5 (k0_pay1404 a6) (f7, f9, k0_pay1401, k0_pay1403 k0_pay1402) 𝒱₀ k0_pay1402
    sl_exec
    sl_step
    ihave HB : iprop(backG c a1 ∗ backY c a3) $$ [HA]
    · iapply (unpack_all c a1 a3); iexact HA
    icases HB with ⟨HBG, HBY⟩
    iapply Hk
    isplitl [Ha0]; · iexact Ha0
    isplitl [Ha2]; · iexact Ha2
    isplitl [Ha4]; · iexact Ha4
    isplitl [Ha5]; · iexact Ha5
    isplitl [Ha6]; · iexact Ha6
    isplitl [H7]; · iexact H7
    isplitl [H8]; · iexact H8
    isplitl [H9]; · iexact H9
    isplitl [H10]; · iexact H10
    isplitl [H11]; · iexists _; iexact H11
    isplitl [H13]; · iexists _; iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [HBG]; · iexact HBG
    isplitl [HBY]; · iexact HBY
    iexists _; iexact HO

end Cert.Kernel.Hand
end
-- ==== Proof.KStep.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import proofs.«01_k».proof.Proof.KBody
public import Idealize.ShloMosaic.Lib.WritesUnit
public import proofs.«01_k».proof.Proof.Gen.Kernel.Loops

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## One trip, output by output -/

section Step
variable (c : Dev nD)
    (f11 : BufOf F c B11) (f12 : BufOf F c B12) (f13 : BufOf F c B13) (f14 : BufOf F c B14)
    (f15 : BufOf F c B15) (f16 : BufOf F c B16) (f18 : BufOf F c B18) (k : Fin k0_t1_loop.trips)

/-- The gradient rows a trip stores. -/
def payD : (Rect.unit (s := S3x8x640) (k0_off57 k) S1x8x128.size (k0_off57_inb k)).shape.Idx → Elt F .f32 :=
  k0_pay1406 (trip.sl.r_3 c f16 k) (trip.sl.r_1002 c f12 f13 f14 f15 f16 f18 k) (trip.sl.r_1003 c f12 f13 f14 f15 k)
/-- The softmax rows a trip stores. -/
def payS : (Rect.unit (s := S3x8x640) (k0_off57 k) S1x8x128.size (k0_off57_inb k)).shape.Idx → Elt F .f32 :=
  k0_pay1407 (trip.sl.r_3 c f16 k) (trip.sl.r_1002 c f12 f13 f14 f15 f16 f18 k) (trip.sl.r_1003 c f12 f13 f14 f15 k)
    (View.readAt (Elt F) B11.view (Rect.unit (s := S3x8x640) (k0_off57 k) S1x8x128.size (k0_off57_inb k)).toLoadRect f11)
/-- The weighted sums after a trip, and the counts after it. -/
def sumStep (x : BufOf F c B19) : BufOf F c B19 := B19.view.writes (Elt F) B19.view.junk (trip.sl.H19_24 c f14 f15 f16 k x)
def cntStep (x : BufOf F c B20) : BufOf F c B20 := B20.view.writes (Elt F) B20.view.junk (trip.sl.H20_1 c f16 k x)
end Step

section Out
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)

theorem tripOut_eq (k : Fin k0_t1_loop.trips) (x : BufOf F c M7 × BufOf F c M9 × BufOf F c B19 × BufOf F c B20) :
    tripOut c M7 h7 M8 h8 M9 h9 M10 h10 a1 a3 f11 f13 f15 f16 f18 k x
      = (M7.view.writes (Elt F) x.1 [⟨Rect.unit (k0_off57 k) S1x8x128.size (k0_off57_inb k), payS c f11 (ringG c a1) f13 (ringY c a3) f15 f16 f18 k⟩],
         M9.view.writes (Elt F) x.2.1 [⟨Rect.unit (k0_off57 k) S1x8x128.size (k0_off57_inb k), payD c (ringG c a1) f13 (ringY c a3) f15 f16 f18 k⟩],
         sumStep c (ringY c a3) f15 f16 k x.2.2.1, cntStep c f16 k x.2.2.2) := rfl

theorem after_succ (n : ℕ) (hn : n < k0_t1_loop.trips) (x : BufOf F c M7 × BufOf F c M9 × BufOf F c B19 × BufOf F c B20) :
    after c M7 h7 M8 h8 M9 h9 M10 h10 a1 a3 f11 f13 f15 f16 f18 (n + 1) x
      = tripOut c M7 h7 M8 h8 M9 h9 M10 h10 a1 a3 f11 f13 f15 f16 f18 ⟨n, hn⟩ (after c M7 h7 M8 h8 M9 h9 M10 h10 a1 a3 f11 f13 f15 f16 f18 n x) :=
  iter_succ _ (⟨n, hn⟩ : Fin k0_t1_loop.trips) x

attribute [local irreducible] tripOut payS payD sumStep cntStep

/-- The accumulators do not see the row outputs. -/
theorem after_sums (n : ℕ) (hn : n ≤ k0_t1_loop.trips) (x : BufOf F c M7 × BufOf F c M9 × BufOf F c B19 × BufOf F c B20) :
    (after c M7 h7 M8 h8 M9 h9 M10 h10 a1 a3 f11 f13 f15 f16 f18 n x).2.2
      = (iter (sumStep c (ringY c a3) f15 f16) n x.2.2.1, iter (cntStep c f16) n x.2.2.2) := by
  induction n with
  | zero => rfl
  | succ n ih =>
    have hn' : n < k0_t1_loop.trips := hn
    rw [after_succ c M7 h7 M8 h8 M9 h9 M10 h10 a1 a3 f11 f13 f15 f16 f18 n hn', tripOut_eq]
    rw [iter_succ (sumStep c (ringY c a3) f15 f16) (⟨n, hn'⟩ : Fin k0_t1_loop.trips), iter_succ (cntStep c f16) (⟨n, hn'⟩ : Fin k0_t1_loop.trips)]
    have e := ih (Nat.le_of_lt hn')
    have e1 := congrArg Prod.fst e
    have e2 := congrArg Prod.snd e
    simp only at e1 e2
    simp only [e1, e2]

end Out

/-! ## Fifteen blocks of rows, stored one after another -/

theorem k0_off57_eq : ∀ k : Fin k0_t1_loop.trips, k0_off57 k = ![k.val / 5, 0, 128 * (k.val % 5)] := by decide +kernel

/-- The chunk a row belongs to, and the row's place in it. -/
def chunkOf (i : S3x8x640.Idx) : Fin k0_t1_loop.trips :=
  ⟨5 * (i 0).val + (i 2).val / 128, by have h0 : (i 0).val < 3 := (i 0).isLt; have h2 : (i 2).val < 640 := (i 2).isLt; show _ < 15; omega⟩
def laneOf (i : S3x8x640.Idx) : S1x8x128.Idx :=
  ValueIdx.ix3 (0 : Fin 1) (i 1) (⟨(i 2).val % 128, Nat.mod_lt _ (by decide)⟩ : Fin 128)

/-- The rows put together from the chunks' blocks. -/
def rows {α : Type} (P : Fin k0_t1_loop.trips → S1x8x128.Idx → α) (i : S3x8x640.Idx) : α := P (chunkOf i) (laneOf i)

theorem read_rows {sp : Space} (v : View sig .tc sp S3x8x640 .f32) (f : v.ty.Contents (Elt F)) (P : Fin k0_t1_loop.trips → S1x8x128.Idx → Elt F .f32)
    (s : ℕ → v.ty.Contents (Elt F)) (h0 : s 0 = f)
    (hs : ∀ n (hn : n < k0_t1_loop.trips), s (n + 1) = v.writes (Elt F) (s n) [⟨Rect.unit (k0_off57 ⟨n, hn⟩) S1x8x128.size (k0_off57_inb ⟨n, hn⟩), P ⟨n, hn⟩⟩])
    (n : ℕ) (hn : n ≤ k0_t1_loop.trips) (i : S3x8x640.Idx) (hi : (chunkOf i).val < n) :
    v.read (Elt F) (s n) i = rows P i := by
  induction n with
  | zero => exact absurd hi (Nat.not_lt_zero _)
  | succ n ih =>
    have hn' : n < k0_t1_loop.trips := hn
    have i0 : (i 0).val < 3 := (i 0).isLt
    have i1 : (i 1).val < 8 := (i 1).isLt
    have i2 : (i 2).val < 640 := (i 2).isLt
    have hk : (chunkOf i).val = 5 * (i 0).val + (i 2).val / 128 := rfl
    have hm := Nat.div_add_mod (i 2).val 128
    have hml := Nat.mod_lt (i 2).val (show 0 < 128 by decide)
    have hq : (i 2).val / 128 < 5 := by omega
    rw [hs n hn']
    by_cases hc : (chunkOf i).val = n
    · have hcf : (⟨n, hn'⟩ : Fin k0_t1_loop.trips) = chunkOf i := Fin.ext hc.symm
      rw [View.read_writes_cons_unit_of_mem v (s n) (k0_off57_inb ⟨n, hn'⟩) (P ⟨n, hn'⟩) [] i (laneOf i) (k0_off57_eq ⟨n, hn'⟩) (by
        intro a
        match a with
        | ⟨0, _⟩ => show (i 0).val = n / 5 + 0; omega
        | ⟨1, _⟩ => show (i 1).val = 0 + (i 1).val; omega
        | ⟨2, _⟩ => show (i 2).val = 128 * (n % 5) + (i 2).val % 128; omega)]
      unfold rows; rw [hcf]
    · have hlt : (chunkOf i).val < n := by omega
      by_cases hb : (i 0).val = n / 5
      · rw [View.read_writes_cons_unit_of_not_mem v (s n) (k0_off57_inb ⟨n, hn'⟩) (P ⟨n, hn'⟩) [] i (k0_off57_eq ⟨n, hn'⟩) (2 : Fin 3) (by
          show (i 2).val < 128 * (n % 5) ∨ 128 * (n % 5) + 128 ≤ (i 2).val; left; omega)]
        exact ih (Nat.le_of_lt hn') hlt
      · rw [View.read_writes_cons_unit_of_not_mem v (s n) (k0_off57_inb ⟨n, hn'⟩) (P ⟨n, hn'⟩) [] i (k0_off57_eq ⟨n, hn'⟩) (0 : Fin 3) (by
          show (i 0).val < n / 5 ∨ n / 5 + 1 ≤ (i 0).val; omega)]
        exact ih (Nat.le_of_lt hn') hlt

section Rows
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)
    (x : BufOf F c M7 × BufOf F c M9 × BufOf F c B19 × BufOf F c B20)

attribute [local irreducible] tripOut payS payD sumStep cntStep

theorem read_after7 :
    M7.view.read (Elt F) (after c M7 h7 M8 h8 M9 h9 M10 h10 a1 a3 f11 f13 f15 f16 f18 k0_t1_loop.trips x).1
      = rows (fun k => payS c f11 (ringG c a1) f13 (ringY c a3) f15 f16 f18 k) := by
  funext i
  refine read_rows M7.view x.1 (fun k => payS c f11 (ringG c a1) f13 (ringY c a3) f15 f16 f18 k)
    (fun n => (after c M7 h7 M8 h8 M9 h9 M10 h10 a1 a3 f11 f13 f15 f16 f18 n x).1) rfl (fun n hn => ?_) k0_t1_loop.trips le_rfl i (chunkOf i).isLt
  show (after c M7 h7 M8 h8 M9 h9 M10 h10 a1 a3 f11 f13 f15 f16 f18 (n + 1) x).1 = _
  rw [after_succ c M7 h7 M8 h8 M9 h9 M10 h10 a1 a3 f11 f13 f15 f16 f18 n hn, tripOut_eq]

theorem read_after9 :
    M9.view.read (Elt F) (after c M7 h7 M8 h8 M9 h9 M10 h10 a1 a3 f11 f13 f15 f16 f18 k0_t1_loop.trips x).2.1
      = rows (fun k => payD c (ringG c a1) f13 (ringY c a3) f15 f16 f18 k) := by
  funext i
  refine read_rows M9.view x.2.1 (fun k => payD c (ringG c a1) f13 (ringY c a3) f15 f16 f18 k)
    (fun n => (after c M7 h7 M8 h8 M9 h9 M10 h10 a1 a3 f11 f13 f15 f16 f18 n x).2.1) rfl (fun n hn => ?_) k0_t1_loop.trips le_rfl i (chunkOf i).isLt
  show (after c M7 h7 M8 h8 M9 h9 M10 h10 a1 a3 f11 f13 f15 f16 f18 (n + 1) x).2.1 = _
  rw [after_succ c M7 h7 M8 h8 M9 h9 M10 h10 a1 a3 f11 f13 f15 f16 f18 n hn, tripOut_eq]

end Rows

section Late
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (f7 : BufOf F c M7) (f8 : BufOf F c M8) (f9 : BufOf F c M9) (f10 : BufOf F c M10)
    (a0 : BufOf F c A0) (a1 : BufOf F c A1) (a2 : BufOf F c A2) (a3 : BufOf F c A3) (a4 : BufOf F c A4) (a5 : BufOf F c A5) (a6 : BufOf F c A6)

/-- The counts and the weighted sums once every chunk is in. -/
def finC (c : Dev nD) (a5 : BufOf F c A5) : BufOf F c B20 := iter (cntStep c a5) k0_t1_loop.trips (k0_pay1403 k0_pay1402 : BufOf F c B20)
def finS (c : Dev nD) (a3 : BufOf F c A3) (a4 : BufOf F c A4) (a5 : BufOf F c A5) : BufOf F c B19 :=
  iter (sumStep c (ringY c a3) a4 a5) k0_t1_loop.trips (k0_pay1401 : BufOf F c B19)
/-- The counts per row, and the sums of the three bands. -/
def rowC (C : BufOf F c B20) : FVec F S8x1 .f32 := k0_pay1408 (View.readAt (Elt F) B20.view (Rect.unit (s := S8x128) ![0, 0] S8x128.size inb_S8x128_S8x128_0_0).toLoadRect C)
def rowS (S : BufOf F c B19) : FVec F S8x6144 .f32 :=
  k0_pay1409 (View.readAt (Elt F) B19.view (Rect.unit (s := S24x6144) ![0, 0] S8x6144.size inb_S24x6144_S8x6144_0_0).toLoadRect S)
    (View.readAt (Elt F) B19.view (Rect.unit (s := S24x6144) ![8, 0] S8x6144.size inb_S24x6144_S8x6144_8_0).toLoadRect S)
    (View.readAt (Elt F) B19.view (Rect.unit (s := S24x6144) ![16, 0] S8x6144.size inb_S24x6144_S8x6144_16_0).toLoadRect S)

/-- The two late outputs from the accumulators. -/
def eOf (c : Dev nD) (x : BufOf F c B19 × BufOf F c B20) (v : Vec F S8x6144 .f32) : FVec F S8x6144 .f32 :=
  k0_pay2 (rowC c x.2) (rowS c x.1) (Scalar.ofBits .f32 0x3F800000#32) v
def yOf (c : Dev nD) (x : BufOf F c B19 × BufOf F c B20) : FVec F S8x6144 .f32 :=
  k0_pay1 (rowC c x.2) (rowS c x.1) (Scalar.ofBits .f32 0x3F800000#32)

attribute [local irreducible] tripOut

theorem late_eq : (bodyRun c M7 h7 M8 h8 M9 h9 M10 h10 f7 f8 f9 f10 a0 a1 a2 a3 a4 a5 a6).1
    = (M8.view.writes (Elt F) f8 [⟨Rect.unit (s := S8x6144) ![0, 0] S8x6144.size inb_S8x6144_S8x6144_0_0,
          k0_pay2 (rowC c (after c M7 h7 M8 h8 M9 h9 M10 h10 a1 a3 a0 a2 a4 a5 (k0_pay1404 a6) k0_t1_loop.trips (f7, f9, k0_pay1401, k0_pay1403 k0_pay1402)).2.2.2)
            (rowS c (after c M7 h7 M8 h8 M9 h9 M10 h10 a1 a3 a0 a2 a4 a5 (k0_pay1404 a6) k0_t1_loop.trips (f7, f9, k0_pay1401, k0_pay1403 k0_pay1402)).2.2.1)
            (Scalar.ofBits .f32 0x3F800000#32) (View.readAt (Elt F) B17.view (Rect.unit (s := S8x6144) ![0, 0] S8x6144.size inb_S8x6144_S8x6144_0_0).toLoadRect a6)⟩],
      M10.view.writes (Elt F) f10 [⟨Rect.unit (s := S8x6144) ![0, 0] S8x6144.size inb_S8x6144_S8x6144_0_0,
          k0_pay1 (rowC c (after c M7 h7 M8 h8 M9 h9 M10 h10 a1 a3 a0 a2 a4 a5 (k0_pay1404 a6) k0_t1_loop.trips (f7, f9, k0_pay1401, k0_pay1403 k0_pay1402)).2.2.2)
            (rowS c (after c M7 h7 M8 h8 M9 h9 M10 h10 a1 a3 a0 a2 a4 a5 (k0_pay1404 a6) k0_t1_loop.trips (f7, f9, k0_pay1401, k0_pay1403 k0_pay1402)).2.2.1)
            (Scalar.ofBits .f32 0x3F800000#32)⟩]) := by
  rfl

theorem after_fin : (after c M7 h7 M8 h8 M9 h9 M10 h10 a1 a3 a0 a2 a4 a5 (k0_pay1404 a6) k0_t1_loop.trips (f7, f9, k0_pay1401, k0_pay1403 k0_pay1402)).2.2
    = (finS c a3 a4 a5, finC c a5) :=
  after_sums c M7 h7 M8 h8 M9 h9 M10 h10 a1 a3 a0 a2 a4 a5 (k0_pay1404 a6) k0_t1_loop.trips le_rfl (f7, f9, k0_pay1401, k0_pay1403 k0_pay1402)

theorem late_eq' : (bodyRun c M7 h7 M8 h8 M9 h9 M10 h10 f7 f8 f9 f10 a0 a1 a2 a3 a4 a5 a6).1
    = (M8.view.writes (Elt F) f8 [⟨Rect.unit (s := S8x6144) ![0, 0] S8x6144.size inb_S8x6144_S8x6144_0_0,
          eOf c (after c M7 h7 M8 h8 M9 h9 M10 h10 a1 a3 a0 a2 a4 a5 (k0_pay1404 a6) k0_t1_loop.trips (f7, f9, k0_pay1401, k0_pay1403 k0_pay1402)).2.2
            (View.readAt (Elt F) B17.view (Rect.unit (s := S8x6144) ![0, 0] S8x6144.size inb_S8x6144_S8x6144_0_0).toLoadRect a6)⟩],
      M10.view.writes (Elt F) f10 [⟨Rect.unit (s := S8x6144) ![0, 0] S8x6144.size inb_S8x6144_S8x6144_0_0,
          yOf c (after c M7 h7 M8 h8 M9 h9 M10 h10 a1 a3 a0 a2 a4 a5 (k0_pay1404 a6) k0_t1_loop.trips (f7, f9, k0_pay1401, k0_pay1403 k0_pay1402)).2.2⟩]) := by
  unfold eOf yOf
  exact late_eq c M7 h7 M8 h8 M9 h9 M10 h10 f7 f8 f9 f10 a0 a1 a2 a3 a4 a5 a6

/-- What the two late outputs hold. -/
def lateE (c : Dev nD) (a3 : BufOf F c A3) (a4 : BufOf F c A4) (a5 : BufOf F c A5) (a6 : BufOf F c A6) : FVec F S8x6144 .f32 :=
  eOf c (finS c a3 a4 a5, finC c a5) a6
def lateY (c : Dev nD) (a3 : BufOf F c A3) (a4 : BufOf F c A4) (a5 : BufOf F c A5) : FVec F S8x6144 .f32 :=
  yOf c (finS c a3 a4 a5, finC c a5)

attribute [local irreducible] eOf yOf bodyRun iter finS finC

theorem read_full8V {sp : Space} (v : View sig .tc sp S8x6144 .f32) (f : v.ty.Contents (Elt F)) (p : S8x6144.Idx → Elt F .f32) :
    v.read (Elt F) (v.writes (Elt F) f [⟨Rect.unit (s := S8x6144) ![0, 0] S8x6144.size inb_S8x6144_S8x6144_0_0, p⟩]) = p := by
  exact View.read_writes_full v f inb_S8x6144_S8x6144_0_0 p []
theorem read_full8 (c : Dev nD) (M8 : Memref sig .tc .vmem S8x6144 .f32) (f : BufOf F c M8) (p : FVec F S8x6144 .f32) :
    M8.view.read (Elt F) (M8.view.writes (Elt F) f [⟨Rect.unit (s := S8x6144) ![0, 0] S8x6144.size inb_S8x6144_S8x6144_0_0, p⟩]) = p :=
  read_full8V M8.view f p

theorem readE (w : BufOf F c M8 × BufOf F c M10) (x : BufOf F c B19 × BufOf F c B20) (hx : x = (finS c a3 a4 a5, finC c a5))
    (v : Vec F S8x6144 .f32) (hv : v = a6) (r : BufOf F c M10)
    (h : w = (M8.view.writes (Elt F) f8 [⟨Rect.unit (s := S8x6144) ![0, 0] S8x6144.size inb_S8x6144_S8x6144_0_0, eOf c x v⟩], r)) :
    M8.view.read (Elt F) w.1 = lateE c a3 a4 a5 a6 := by
  rw [h, hx, hv]
  dsimp only
  unfold lateE
  exact read_full8 c M8 f8 _
theorem readY (w : BufOf F c M8 × BufOf F c M10) (x : BufOf F c B19 × BufOf F c B20) (hx : x = (finS c a3 a4 a5, finC c a5))
    (r : BufOf F c M8)
    (h : w = (r, M10.view.writes (Elt F) f10 [⟨Rect.unit (s := S8x6144) ![0, 0] S8x6144.size inb_S8x6144_S8x6144_0_0, yOf c x⟩])) :
    M10.view.read (Elt F) w.2 = lateY c a3 a4 a5 := by
  rw [h, hx]
  dsimp only
  unfold lateY
  exact read_full8 c M10 f10 _

theorem read_late8 : M8.view.read (Elt F) (bodyRun c M7 h7 M8 h8 M9 h9 M10 h10 f7 f8 f9 f10 a0 a1 a2 a3 a4 a5 a6).1.1 = lateE c a3 a4 a5 a6 :=
  readE c M8 M10 f8 a3 a4 a5 a6 _ _ (after_fin c M7 h7 M8 h8 M9 h9 M10 h10 f7 f9 a0 a1 a2 a3 a4 a5 a6) _ (View.readAt_full B17.view a6 inb_S8x6144_S8x6144_0_0) _
    (late_eq' c M7 h7 M8 h8 M9 h9 M10 h10 f7 f8 f9 f10 a0 a1 a2 a3 a4 a5 a6)
theorem read_late10 : M10.view.read (Elt F) (bodyRun c M7 h7 M8 h8 M9 h9 M10 h10 f7 f8 f9 f10 a0 a1 a2 a3 a4 a5 a6).1.2 = lateY c a3 a4 a5 :=
  readY c M8 M10 f10 a3 a4 a5 _ _ (after_fin c M7 h7 M8 h8 M9 h9 M10 h10 f7 f9 a0 a1 a2 a3 a4 a5 a6) _
    (late_eq' c M7 h7 M8 h8 M9 h9 M10 h10 f7 f8 f9 f10 a0 a1 a2 a3 a4 a5 a6)
end Late

end Cert.Kernel.Hand
end
-- ==== Proof.KBlocks.lean ====
module

public import proofs.«01_k».proof.Proof.KStep
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

set_option maxRecDepth 100000

/-! ## Each buffer the transfers touch, split into its fifteen chunks -/

theorem set_sG (k : Fin k0_t1_loop.trips) : (sG k).view.set = (Rect.unit (s := S15x128x6144) (k0_off2 k) S1x128x6144.size (k0_off2_inb k)).set :=
  (View.set_reshape _ _).trans (View.set_slice_whole _ _)
theorem set_hG (k : Fin k0_t1_loop.trips) : (hG k).view.set = (Rect.unit (s := S3x640x6144) (k0_off3 k) S1x128x6144.size (k0_off3_inb k)).set :=
  (View.set_reshape _ _).trans (View.set_slice_whole _ _)
theorem set_sY (k : Fin k0_t1_loop.trips) : (sY k).view.set = (Rect.unit (s := S15x2x128x6144) (k0_off4 k) S1x2x128x6144.size (k0_off4_inb k)).set :=
  (View.set_reshape _ _).trans (View.set_slice_whole _ _)
theorem set_hY (k : Fin k0_t1_loop.trips) : (hY k).view.set = (Rect.unit (s := S3x2x640x6144) (k0_off5 k) S1x2x128x6144.size (k0_off5_inb k)).set :=
  (View.set_reshape _ _).trans (View.set_slice_whole _ _)

theorem trips_eq : k0_t1_loop.trips = 15 := by decide

theorem slotsG_disj (k k' : Fin k0_t1_loop.trips) (h : k ≠ k') : Disjoint (Rect.unit (s := S15x128x6144) (k0_off2 k) S1x128x6144.size (k0_off2_inb k)).set (Rect.unit (s := S15x128x6144) (k0_off2 k') S1x128x6144.size (k0_off2_inb k')).set := by
  rw [Finset.disjoint_left]
  intro i hi hi'
  have a0 := (Rect.mem_set_unit.mp hi) 0
  have b0 := (Rect.mem_set_unit.mp hi') 0
  rw [k0_off2_eq] at a0 b0
  change k.val ≤ (i 0).val ∧ (i 0).val < k.val + 1 at a0
  change k'.val ≤ (i 0).val ∧ (i 0).val < k'.val + 1 at b0
  exact h (Fin.ext (by omega))
theorem slotsG_cover : (Finset.univ : Finset (Fin k0_t1_loop.trips)).biUnion (fun k => (Rect.unit (s := S15x128x6144) (k0_off2 k) S1x128x6144.size (k0_off2_inb k)).set) = Finset.univ := by
  ext i
  simp only [Finset.mem_biUnion, Finset.mem_univ, true_and, iff_true]
  have h0 : (i 0).val < 15 := (i 0).isLt
  have h1 : (i 1).val < 128 := (i 1).isLt
  have h2 : (i 2).val < 6144 := (i 2).isLt
  obtain ⟨k, hk⟩ : ∃ k : Fin k0_t1_loop.trips, k.val = (i 0).val := ⟨⟨(i 0).val, by rw [trips_eq]; omega⟩, rfl⟩
  refine ⟨k, Rect.mem_set_unit.mpr fun a => ?_⟩
  rw [k0_off2_eq]
  match a with
  | ⟨0, _⟩ =>
    show k.val ≤ (i 0).val ∧ (i 0).val < k.val + 1
    omega
  | ⟨1, _⟩ =>
    show 0 ≤ (i 1).val ∧ (i 1).val < 0 + 128
    omega
  | ⟨2, _⟩ =>
    show 0 ≤ (i 2).val ∧ (i 2).val < 0 + 6144
    omega
/-- The gradient ring is its fifteen slots. -/
theorem slotsG (c : Dev nD) (f : BufOf F c B12) : (pt c B12 f : sProp 𝕄) = bigSep Finset.univ fun k => heldG c k f := by
  refine Ring.pointsTo_blocks (ℓ := B12.view.loc (c : Thread nD τ)) (B := Fin k0_t1_loop.trips) (fun k => (sG k).view.set) (fun k k' h => ?_) ?_ f
  · rw [set_sG, set_sG]; exact slotsG_disj k k' h
  · rw [show (fun k => (sG k).view.set) = fun k => (Rect.unit (s := S15x128x6144) (k0_off2 k) S1x128x6144.size (k0_off2_inb k)).set from funext set_sG]; exact slotsG_cover

theorem slotsY_disj (k k' : Fin k0_t1_loop.trips) (h : k ≠ k') : Disjoint (Rect.unit (s := S15x2x128x6144) (k0_off4 k) S1x2x128x6144.size (k0_off4_inb k)).set (Rect.unit (s := S15x2x128x6144) (k0_off4 k') S1x2x128x6144.size (k0_off4_inb k')).set := by
  rw [Finset.disjoint_left]
  intro i hi hi'
  have a0 := (Rect.mem_set_unit.mp hi) 0
  have b0 := (Rect.mem_set_unit.mp hi') 0
  rw [k0_off4_eq] at a0 b0
  change k.val ≤ (i 0).val ∧ (i 0).val < k.val + 1 at a0
  change k'.val ≤ (i 0).val ∧ (i 0).val < k'.val + 1 at b0
  exact h (Fin.ext (by omega))
theorem slotsY_cover : (Finset.univ : Finset (Fin k0_t1_loop.trips)).biUnion (fun k => (Rect.unit (s := S15x2x128x6144) (k0_off4 k) S1x2x128x6144.size (k0_off4_inb k)).set) = Finset.univ := by
  ext i
  simp only [Finset.mem_biUnion, Finset.mem_univ, true_and, iff_true]
  have h0 : (i 0).val < 15 := (i 0).isLt
  have h1 : (i 1).val < 2 := (i 1).isLt
  have h2 : (i 2).val < 128 := (i 2).isLt
  have h3 : (i 3).val < 6144 := (i 3).isLt
  obtain ⟨k, hk⟩ : ∃ k : Fin k0_t1_loop.trips, k.val = (i 0).val := ⟨⟨(i 0).val, by rw [trips_eq]; omega⟩, rfl⟩
  refine ⟨k, Rect.mem_set_unit.mpr fun a => ?_⟩
  rw [k0_off4_eq]
  match a with
  | ⟨0, _⟩ =>
    show k.val ≤ (i 0).val ∧ (i 0).val < k.val + 1
    omega
  | ⟨1, _⟩ =>
    show 0 ≤ (i 1).val ∧ (i 1).val < 0 + 2
    omega
  | ⟨2, _⟩ =>
    show 0 ≤ (i 2).val ∧ (i 2).val < 0 + 128
    omega
  | ⟨3, _⟩ =>
    show 0 ≤ (i 3).val ∧ (i 3).val < 0 + 6144
    omega
/-- The activation ring is its fifteen slots. -/
theorem slotsY (c : Dev nD) (f : BufOf F c B14) : (pt c B14 f : sProp 𝕄) = bigSep Finset.univ fun k => heldY c k f := by
  refine Ring.pointsTo_blocks (ℓ := B14.view.loc (c : Thread nD τ)) (B := Fin k0_t1_loop.trips) (fun k => (sY k).view.set) (fun k k' h => ?_) ?_ f
  · rw [set_sY, set_sY]; exact slotsY_disj k k' h
  · rw [show (fun k => (sY k).view.set) = fun k => (Rect.unit (s := S15x2x128x6144) (k0_off4 k) S1x2x128x6144.size (k0_off4_inb k)).set from funext set_sY]; exact slotsY_cover

theorem homesG_disj (k k' : Fin k0_t1_loop.trips) (h : k ≠ k') : Disjoint (Rect.unit (s := S3x640x6144) (k0_off3 k) S1x128x6144.size (k0_off3_inb k)).set (Rect.unit (s := S3x640x6144) (k0_off3 k') S1x128x6144.size (k0_off3_inb k')).set := by
  rw [Finset.disjoint_left]
  intro i hi hi'
  have a0 := (Rect.mem_set_unit.mp hi) 0
  have b0 := (Rect.mem_set_unit.mp hi') 0
  have a1 := (Rect.mem_set_unit.mp hi) 1
  have b1 := (Rect.mem_set_unit.mp hi') 1
  rw [k0_off3_eq] at a0 b0 a1 b1
  change k.val / 5 ≤ (i 0).val ∧ (i 0).val < k.val / 5 + 1 at a0
  change k'.val / 5 ≤ (i 0).val ∧ (i 0).val < k'.val / 5 + 1 at b0
  change 128 * (k.val % 5) ≤ (i 1).val ∧ (i 1).val < 128 * (k.val % 5) + 128 at a1
  change 128 * (k'.val % 5) ≤ (i 1).val ∧ (i 1).val < 128 * (k'.val % 5) + 128 at b1
  exact h (Fin.ext (by omega))
theorem homesG_cover : (Finset.univ : Finset (Fin k0_t1_loop.trips)).biUnion (fun k => (Rect.unit (s := S3x640x6144) (k0_off3 k) S1x128x6144.size (k0_off3_inb k)).set) = Finset.univ := by
  ext i
  simp only [Finset.mem_biUnion, Finset.mem_univ, true_and, iff_true]
  have h0 : (i 0).val < 3 := (i 0).isLt
  have h1 : (i 1).val < 640 := (i 1).isLt
  have h2 : (i 2).val < 6144 := (i 2).isLt
  obtain ⟨k, hk⟩ : ∃ k : Fin k0_t1_loop.trips, k.val = 5 * (i 0).val + (i 1).val / 128 := ⟨⟨5 * (i 0).val + (i 1).val / 128, by rw [trips_eq]; omega⟩, rfl⟩
  refine ⟨k, Rect.mem_set_unit.mpr fun a => ?_⟩
  rw [k0_off3_eq]
  match a with
  | ⟨0, _⟩ =>
    show k.val / 5 ≤ (i 0).val ∧ (i 0).val < k.val / 5 + 1
    omega
  | ⟨1, _⟩ =>
    show 128 * (k.val % 5) ≤ (i 1).val ∧ (i 1).val < 128 * (k.val % 5) + 128
    omega
  | ⟨2, _⟩ =>
    show 0 ≤ (i 2).val ∧ (i 2).val < 0 + 6144
    omega
/-- The gradient argument is its fifteen chunks: batch `k / 5`, rows `128 (k % 5) …`. -/
theorem homesG (c : Dev nD) (f : BufOf F c A1) : (pt c A1 f : sProp 𝕄) = bigSep Finset.univ fun k => homeG c k f := by
  refine Ring.pointsTo_blocks (ℓ := A1.view.loc (c : Thread nD τ)) (B := Fin k0_t1_loop.trips) (fun k => (hG k).view.set) (fun k k' h => ?_) ?_ f
  · rw [set_hG, set_hG]; exact homesG_disj k k' h
  · rw [show (fun k => (hG k).view.set) = fun k => (Rect.unit (s := S3x640x6144) (k0_off3 k) S1x128x6144.size (k0_off3_inb k)).set from funext set_hG]; exact homesG_cover

theorem homesY_disj (k k' : Fin k0_t1_loop.trips) (h : k ≠ k') : Disjoint (Rect.unit (s := S3x2x640x6144) (k0_off5 k) S1x2x128x6144.size (k0_off5_inb k)).set (Rect.unit (s := S3x2x640x6144) (k0_off5 k') S1x2x128x6144.size (k0_off5_inb k')).set := by
  rw [Finset.disjoint_left]
  intro i hi hi'
  have a0 := (Rect.mem_set_unit.mp hi) 0
  have b0 := (Rect.mem_set_unit.mp hi') 0
  have a2 := (Rect.mem_set_unit.mp hi) 2
  have b2 := (Rect.mem_set_unit.mp hi') 2
  rw [k0_off5_eq] at a0 b0 a2 b2
  change k.val / 5 ≤ (i 0).val ∧ (i 0).val < k.val / 5 + 1 at a0
  change k'.val / 5 ≤ (i 0).val ∧ (i 0).val < k'.val / 5 + 1 at b0
  change 128 * (k.val % 5) ≤ (i 2).val ∧ (i 2).val < 128 * (k.val % 5) + 128 at a2
  change 128 * (k'.val % 5) ≤ (i 2).val ∧ (i 2).val < 128 * (k'.val % 5) + 128 at b2
  exact h (Fin.ext (by omega))
theorem homesY_cover : (Finset.univ : Finset (Fin k0_t1_loop.trips)).biUnion (fun k => (Rect.unit (s := S3x2x640x6144) (k0_off5 k) S1x2x128x6144.size (k0_off5_inb k)).set) = Finset.univ := by
  ext i
  simp only [Finset.mem_biUnion, Finset.mem_univ, true_and, iff_true]
  have h0 : (i 0).val < 3 := (i 0).isLt
  have h1 : (i 1).val < 2 := (i 1).isLt
  have h2 : (i 2).val < 640 := (i 2).isLt
  have h3 : (i 3).val < 6144 := (i 3).isLt
  obtain ⟨k, hk⟩ : ∃ k : Fin k0_t1_loop.trips, k.val = 5 * (i 0).val + (i 2).val / 128 := ⟨⟨5 * (i 0).val + (i 2).val / 128, by rw [trips_eq]; omega⟩, rfl⟩
  refine ⟨k, Rect.mem_set_unit.mpr fun a => ?_⟩
  rw [k0_off5_eq]
  match a with
  | ⟨0, _⟩ =>
    show k.val / 5 ≤ (i 0).val ∧ (i 0).val < k.val / 5 + 1
    omega
  | ⟨1, _⟩ =>
    show 0 ≤ (i 1).val ∧ (i 1).val < 0 + 2
    omega
  | ⟨2, _⟩ =>
    show 128 * (k.val % 5) ≤ (i 2).val ∧ (i 2).val < 128 * (k.val % 5) + 128
    omega
  | ⟨3, _⟩ =>
    show 0 ≤ (i 3).val ∧ (i 3).val < 0 + 6144
    omega
/-- The activations are their fifteen chunks. -/
theorem homesY (c : Dev nD) (f : BufOf F c A3) : (pt c A3 f : sProp 𝕄) = bigSep Finset.univ fun k => homeY c k f := by
  refine Ring.pointsTo_blocks (ℓ := A3.view.loc (c : Thread nD τ)) (B := Fin k0_t1_loop.trips) (fun k => (hY k).view.set) (fun k k' h => ?_) ?_ f
  · rw [set_hY, set_hY]; exact homesY_disj k k' h
  · rw [show (fun k => (hY k).view.set) = fun k => (Rect.unit (s := S3x2x640x6144) (k0_off5 k) S1x2x128x6144.size (k0_off5_inb k)).set from funext set_hY]; exact homesY_cover

/-- What the gradient transfers hand back: their fifteen counters at zero, the ring, the argument. -/
theorem backG_all (c : Dev nD) (a1 : BufOf F c A1) :
    backG c a1 ⊢ (iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
      ∗ (∃ f, pt c B12 f) ∗ pt c A1 a1) : sProp 𝕄) := by
  unfold backG
  rw [bigSep_chunks (fun k => semVal ((c : Thread nD τ), cG k) 0), ← slotsG, ← homesG]
  iintro ⟨⟨H0, H1, H2, H3, H4, H5, H6, H7, H8, H9, H10, H11, H12, H13, H14⟩, HB, HA⟩
  isplitr [HB HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HB]
  · iexists _; iexact HB
  iexact HA

/-- What the activation transfers hand back: their fifteen counters at zero, the ring, the argument. -/
theorem backY_all (c : Dev nD) (a3 : BufOf F c A3) :
    backY c a3 ⊢ (iprop((semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
      ∗ (∃ f, pt c B14 f) ∗ pt c A3 a3) : sProp 𝕄) := by
  unfold backY
  rw [bigSep_chunks (fun k => semVal ((c : Thread nD τ), cY k) 0), ← slotsY, ← homesY]
  iintro ⟨⟨H0, H1, H2, H3, H4, H5, H6, H7, H8, H9, H10, H11, H12, H13, H14⟩, HB, HA⟩
  isplitr [HB HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HB]
  · iexists _; iexact HB
  iexact HA

end Cert.Kernel.Hand
end
-- ==== Proof.KFrame.lean ====
module

public import proofs.«01_k».proof.Proof.KBlocks
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat BodyObligation)

set_option maxRecDepth 100000

variable (m : (ℓ : Loc nD τ sig) → Buf (Elt F) ℓ) (ρ : Dev nD → PrngReg)

/-! ## The body's own counters and the arguments it moves itself -/

/-- The body's counters: five for the small arguments, fifteen for each ring. -/
abbrev osem0 : Fin 35 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 35 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]; rfl
/-- The arguments left in HBM. -/
def H0 : Finset (Ref sig .tc) := {main_v0, main_arg1, main_arg2, main_v1, main_v2, main_v3, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c A0 (V m c main_v0) ∗ pt c A1 (V m c main_arg1) ∗ pt c A2 (V m c main_arg2) ∗ pt c A3 (V m c main_v1) ∗ pt c A4 (V m c main_v2) ∗ pt c A5 (V m c main_v3) ∗ pt c A6 (V m c main_arg6)) := by
  rw [BI.bigSep_eq_bigSepL_of_eq [main_v0, main_arg1, main_arg2, main_v1, main_v2, main_v3, main_arg6] (by decide) (by decide)]; rfl
/-- What the region is entered and left with. -/
theorem PhiD0_eq (c : Dev nD) :
    (Pipeline.ΦD osem0 spec0 H0 (V m) c : sProp 𝕄)
      = iprop(((∃ f, pt c B11 f) ∗ (∃ f, pt c B12 f) ∗ (∃ f, pt c B13 f) ∗ (∃ f, pt c B14 f) ∗ (∃ f, pt c B15 f) ∗ (∃ f, pt c B16 f) ∗ (∃ f, pt c B17 f) ∗ (∃ f, pt c B18 f) ∗ (∃ f, pt c B19 f) ∗ (∃ f, pt c B20 f))
        ∗ (∃ r, prngReg c r)
        ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
        ∗ (pt c A0 (V m c main_v0) ∗ pt c A1 (V m c main_arg1) ∗ pt c A2 (V m c main_arg2) ∗ pt c A3 (V m c main_v1) ∗ pt c A4 (V m c main_v2) ∗ pt c A5 (V m c main_v3) ∗ pt c A6 (V m c main_arg6))) := by
  rw [Pipeline.ΦD_eq, scopedRest0_eq, ownSems00_eq, hbmPts0_eq]

/-! ## The region's data: what each result holds after the body -/

abbrev ms0_0 (t : Fin cfg0.N) : Memref sig .tc .vmem S3x8x640 .f32 := win0_0.stage (cfg0.slots t 0)
abbrev ms0_1 (t : Fin cfg0.N) : Memref sig .tc .vmem S8x6144 .f32 := win0_1.stage (cfg0.slots t 1)
abbrev ms0_2 (t : Fin cfg0.N) : Memref sig .tc .vmem S3x8x640 .f32 := win0_2.stage (cfg0.slots t 2)
abbrev ms0_3 (t : Fin cfg0.N) : Memref sig .tc .vmem S8x6144 .f32 := win0_3.stage (cfg0.slots t 3)

/-- The softmax gradient's rows, the moving average, the router gradient's rows, the mean. -/
def res0 (c : Dev nD) : FVec F S3x8x640 .f32 :=
  rows (fun k => payS c (V m c main_v0) (ringG c (V m c main_arg1)) (V m c main_arg2) (ringY c (V m c main_v1)) (V m c main_v2) (V m c main_v3) (k0_pay1404 (V m c main_arg6)) k)
def res1 (c : Dev nD) : FVec F S8x6144 .f32 := lateE c (V m c main_v1) (V m c main_v2) (V m c main_v3) (V m c main_arg6)
def res2 (c : Dev nD) : FVec F S3x8x640 .f32 :=
  rows (fun k => payD c (ringG c (V m c main_arg1)) (V m c main_arg2) (ringY c (V m c main_v1)) (V m c main_v2) (V m c main_v3) (k0_pay1404 (V m c main_arg6)) k)
def res3 (c : Dev nD) : FVec F S8x6144 .f32 := lateY c (V m c main_v1) (V m c main_v2) (V m c main_v3)

def dats (_ : Fin 1) (c : Dev nD) : Dat τ (Elt F) Unit ℕ (Pipeline.UD sig nD τ) ℕ cfg0 c where
  A w := V m c (Pipeline.arrRef spec0 w)
  after w t := match w with
    | ⟨0, _⟩ => res0 m c
    | ⟨1, _⟩ => res1 m c
    | ⟨2, _⟩ => res2 m c
    | ⟨3, _⟩ => res3 m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = res0 m c := by dsimp only [dats]
theorem after0_1 (c : Dev nD) (t : Fin cfg0.N) : (dats m 0 c).after 1 t = res1 m c := by dsimp only [dats]
theorem after0_2 (c : Dev nD) (t : Fin cfg0.N) : (dats m 0 c).after 2 t = res2 m c := by dsimp only [dats]
theorem after0_3 (c : Dev nD) (t : Fin cfg0.N) : (dats m 0 c).after 3 t = res3 m c := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem res0_def (c : Dev nD) : res0 m c =
    rows (fun k => payS c (V m c main_v0) (ringG c (V m c main_arg1)) (V m c main_arg2) (ringY c (V m c main_v1)) (V m c main_v2) (V m c main_v3) (k0_pay1404 (V m c main_arg6)) k) := rfl
theorem res1_def (c : Dev nD) : res1 m c = lateE c (V m c main_v1) (V m c main_v2) (V m c main_v3) (V m c main_arg6) := rfl
theorem res2_def (c : Dev nD) : res2 m c =
    rows (fun k => payD c (ringG c (V m c main_arg1)) (V m c main_arg2) (ringY c (V m c main_v1)) (V m c main_v2) (V m c main_v3) (k0_pay1404 (V m c main_arg6)) k) := rfl
theorem res3_def (c : Dev nD) : res3 m c = lateY c (V m c main_v1) (V m c main_v2) (V m c main_v3) := rfl

/-- A whole memref owned at some contents is its buffer held. -/
theorem pt_of_owns (c : Dev nD) {sp : Space} {S : Shape} {e : EltTy} (M : Memref sig .tc sp S e) (h : M.IsWhole) (X : S.Idx → Elt F e) :
    owns (c : Thread nD τ) M fullShare X ⊢ (iprop(∃ f, pt c M f) : sProp 𝕄) := by
  unfold owns; rw [h.set_eq_univ]
  iintro ⟨%f, -, H⟩; iexists f; iexact H
theorem owns_of_pt (c : Dev nD) {sp : Space} {S : Shape} {e : EltTy} (M : Memref sig .tc sp S e) (h : M.IsWhole) (f : BufOf F c M) (X : S.Idx → Elt F e)
    (hf : M.view.read (Elt F) f = X) : (pt c M f : sProp 𝕄) ⊢ owns (c : Thread nD τ) M fullShare X := by
  unfold owns; rw [h.set_eq_univ]
  iintro H; iexists f; isplitr
  · ipureintro; exact hf
  iexact H

attribute [local irreducible] res0 res1 res2 res3 bodyRun rows payS payD lateE lateY

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩, Hg, Hq, ⟨HA0, HA1, HA2, HA3, HA4, HA5, HA6⟩⟩, ⟨%W, -, HW⟩, ⟨%d7, H7⟩, ⟨%d8, H8⟩, ⟨%d9, H9⟩, ⟨%d10, H10⟩⟩
  ihave H7' := (pt_of_owns c (ms0_0 t) (hstage0_0 0) _) $$ [H7]
  · iexact H7
  icases H7' with ⟨%f7, H7⟩
  ihave H8' := (pt_of_owns c (ms0_1 t) (hstage0_1 0) _) $$ [H8]
  · iexact H8
  icases H8' with ⟨%f8, H8⟩
  ihave H9' := (pt_of_owns c (ms0_2 t) (hstage0_2 0) _) $$ [H9]
  · iexact H9
  icases H9' with ⟨%f9, H9⟩
  ihave H10' := (pt_of_owns c (ms0_3 t) (hstage0_3 0) _) $$ [H10]
  · iexact H10
  icases H10' with ⟨%f10, H10⟩
  have r7 := (read_after7 c (ms0_0 t) (hstage0_0 0) (ms0_1 t) (hstage0_1 0) (ms0_2 t) (hstage0_2 0) (ms0_3 t) (hstage0_3 0) (V m c main_arg1) (V m c main_v1) (V m c main_v0) (V m c main_arg2) (V m c main_v2) (V m c main_v3) (k0_pay1404 (V m c main_arg6)) (f7, f9, k0_pay1401, k0_pay1403 k0_pay1402)).trans (res0_def m c).symm
  have r8 := (read_late8 c (ms0_0 t) (hstage0_0 0) (ms0_1 t) (hstage0_1 0) (ms0_2 t) (hstage0_2 0) (ms0_3 t) (hstage0_3 0) f7 f8 f9 f10 (V m c main_v0) (V m c main_arg1) (V m c main_arg2) (V m c main_v1) (V m c main_v2) (V m c main_v3) (V m c main_arg6)).trans (res1_def m c).symm
  have r9 := (read_after9 c (ms0_0 t) (hstage0_0 0) (ms0_1 t) (hstage0_1 0) (ms0_2 t) (hstage0_2 0) (ms0_3 t) (hstage0_3 0) (V m c main_arg1) (V m c main_v1) (V m c main_v0) (V m c main_arg2) (V m c main_v2) (V m c main_v3) (k0_pay1404 (V m c main_arg6)) (f7, f9, k0_pay1401, k0_pay1403 k0_pay1402)).trans (res2_def m c).symm
  have r10 := (read_late10 c (ms0_0 t) (hstage0_0 0) (ms0_1 t) (hstage0_1 0) (ms0_2 t) (hstage0_2 0) (ms0_3 t) (hstage0_3 0) f7 f8 f9 f10 (V m c main_v0) (V m c main_arg1) (V m c main_arg2) (V m c main_v1) (V m c main_v2) (V m c main_v3) (V m c main_arg6)).trans (res3_def m c).symm
  iapply ((bodyRun c (ms0_0 t) (hstage0_0 0) (ms0_1 t) (hstage0_1 0) (ms0_2 t) (hstage0_2 0) (ms0_3 t) (hstage0_3 0) f7 f8 f9 f10
    (V m c main_v0) (V m c main_arg1) (V m c main_arg2) (V m c main_v1) (V m c main_v2) (V m c main_v3) (V m c main_arg6)).2
    Variants.none W f11 f12 f13 f14 f15 f16 f17 f18 f19 f20 _)
  isplitl [HA0]; · iexact HA0
  isplitl [HA2]; · iexact HA2
  isplitl [HA4]; · iexact HA4
  isplitl [HA5]; · iexact HA5
  isplitl [HA6]; · iexact HA6
  isplitl [H7]; · iexact H7
  isplitl [H8]; · iexact H8
  isplitl [H9]; · iexact H9
  isplitl [H10]; · iexact H10
  isplitl [H11]; · iexact H11
  isplitl [H13]; · iexact H13
  isplitl [H15]; · iexact H15
  isplitl [H16]; · iexact H16
  isplitl [H17]; · iexact H17
  isplitl [H18]; · iexact H18
  isplitl [H19]; · iexact H19
  isplitl [H20]; · iexact H20
  isplitl [Hq]; · iexact Hq
  isplitl [H12]; · rw [← slotsG]; iexact H12
  isplitl [H14]; · rw [← slotsY]; iexact H14
  isplitl [HA1]; · rw [← homesG]; iexact HA1
  isplitl [HA3]; · rw [← homesY]; iexact HA3
  isplitl [HW]; · iexact HW
  iintro ⟨HA0, HA2, HA4, HA5, HA6, H7, H8, H9, H10, H11, H13, H15, H16, H17, H18, H19, H20, ⟨Hq4, Hq5, Hq6, Hq7, Hq8⟩, HG, HY, ⟨%W', HW'⟩⟩
  ihave HG' := (backG_all c _) $$ [HG]
  · iexact HG
  ihave HY' := (backY_all c _) $$ [HY]
  · iexact HY
  icases HG' with ⟨⟨Hq9, Hq10, Hq11, Hq12, Hq13, Hq14, Hq15, Hq16, Hq17, Hq18, Hq19, Hq20, Hq21, Hq22, Hq23⟩, H12, HA1⟩
  icases HY' with ⟨⟨Hq24, Hq25, Hq26, Hq27, Hq28, Hq29, Hq30, Hq31, Hq32, Hq33, Hq34, Hq35, Hq36, Hq37, Hq38⟩, H14, HA3⟩
  isplitl [H11 H12 H13 H14 H15 H16 H17 H18 H19 H20 Hg Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 HA0 HA1 HA2 HA3 HA4 HA5 HA6]
  · isplitl [H11 H12 H13 H14 H15 H16 H17 H18 H19 H20]
    · isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    isplitl [Hg]; · iexact Hg
    isplitl [Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    isplitl [HA0]; · iexact HA0
    isplitl [HA1]; · iexact HA1
    isplitl [HA2]; · iexact HA2
    isplitl [HA3]; · iexact HA3
    isplitl [HA4]; · iexact HA4
    isplitl [HA5]; · iexact HA5
    iexact HA6
  isplitl [HW']
  · iexists W'; isplitr; · ipureintro; exact fun _ _ => Or.inl trivial
    iexact HW'
  isplitl [H7]
  · iapply (owns_of_pt c (ms0_0 t) (hstage0_0 0) _ _ r7)
    iexact H7
  isplitl [H8]
  · iapply (owns_of_pt c (ms0_1 t) (hstage0_1 0) _ _ r8)
    iexact H8
  isplitl [H9]
  · iapply (owns_of_pt c (ms0_2 t) (hstage0_2 0) _ _ r9)
    iexact H9
  iapply (owns_of_pt c (ms0_3 t) (hstage0_3 0) _ _ r10)
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
    (fun _ => Pipeline.chain (([hostOps1] : List (List (HloOp τ sig (Elt F)))).map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region read and write none of the arguments the body moves. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  have h₁ := (List.forall_iff_forall_mem.mp hostOps1_sub) op hop
  simp only [hostOps1, List.mem_cons, List.mem_nil_iff, or_false] at hop
  refine Pipeline.sub_tailRefsBut Pipeline.Prefetch.none spec0 H0 op h₁ (fun k => k.elim0) fun b hb => ?_
  simp only [H0, Finset.mem_insert, Finset.mem_singleton] at hb
  rcases hop with rfl | rfl <;> rcases hb with rfl | rfl | rfl | rfl | rfl | rfl | rfl <;>
    · simp only [StableHlo.unary_bufs, Finset.mem_insert, Finset.mem_singleton, not_or]
      exact ⟨StableHlo.devRef_ne_of_ne (by decide), StableHlo.devRef_ne_of_ne (by decide)⟩

/-- The run: every result array at what the body left, every other buffer as the host lines leave it, every counter at zero. -/
def RunPost (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (RunPost m) :=
  Pipeline.θ_run_frame_dma_around (Q' := RunPost m) (hQ' := fun _ h => h) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-- A buffer no later line writes and no window stages ends as the region found it. -/
theorem tail_keep (c : Dev nD) (b : Ref sig .tc) (h5 : b ≠ main_v5) (h6 : b ≠ main_v6) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne h5, StableHlo.devRef_ne_of_ne h6⟩)),
    Pipeline.withArrays_of_ne _ c (V0 m c) _ b ha]

/-- The arguments end as launched. -/
theorem args_kept (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.1 c).2 main_arg0 (Pipeline.mem_restRefs_of main_arg0 (by decide) (by decide))).trans ((tail_keep m c main_arg0 (by decide) (by decide) (by decide)).trans (V_main_arg0 m c)),
    ((h.1 c).2 main_arg1 (Pipeline.mem_restRefs_of main_arg1 (by decide) (by decide))).trans ((tail_keep m c main_arg1 (by decide) (by decide) (by decide)).trans (V_main_arg1 m c)),
    ((h.1 c).2 main_arg2 (Pipeline.mem_restRefs_of main_arg2 (by decide) (by decide))).trans ((tail_keep m c main_arg2 (by decide) (by decide) (by decide)).trans (V_main_arg2 m c)),
    ((h.1 c).2 main_arg3 (Pipeline.mem_restRefs_of main_arg3 (by decide) (by decide))).trans ((tail_keep m c main_arg3 (by decide) (by decide) (by decide)).trans (V_main_arg3 m c)),
    ((h.1 c).2 main_arg4 (Pipeline.mem_restRefs_of main_arg4 (by decide) (by decide))).trans ((tail_keep m c main_arg4 (by decide) (by decide) (by decide)).trans (V_main_arg4 m c)),
    ((h.1 c).2 main_arg5 (Pipeline.mem_restRefs_of main_arg5 (by decide) (by decide))).trans ((tail_keep m c main_arg5 (by decide) (by decide) (by decide)).trans (V_main_arg5 m c)),
    ((h.1 c).2 main_arg6 (Pipeline.mem_restRefs_of main_arg6 (by decide) (by decide))).trans ((tail_keep m c main_arg6 (by decide) (by decide) (by decide)).trans (V_main_arg6 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept m r h c, h.2⟩) (run_main m ρ)

end Cert.Kernel.Hand
end
-- ==== Proof.KIPieces.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The operands -/

/-- The arguments left in HBM. -/
abbrev A0 : Memref sig .tc .hbm S3x8x640 .f32 := Memref.whole main_v0
abbrev A1 : Memref sig .tc .hbm S3x640x6144 .fp8e5m2 := Memref.whole main_arg1
abbrev A2 : Memref sig .tc .hbm S3x640 .f32 := Memref.whole main_arg2
abbrev A3 : Memref sig .tc .hbm S3x2x640x6144 .fp8e4m3 := Memref.whole main_v1
abbrev A4 : Memref sig .tc .hbm S3x2x640 .f32 := Memref.whole main_v2
abbrev A5 : Memref sig .tc .hbm S3x2x640 .i32 := Memref.whole main_v3
abbrev A6 : Memref sig .tc .hbm S8x6144 .f32 := Memref.whole main_arg6
/-- The scratch buffers. -/
abbrev B11 : Memref sig .tc .vmem S3x8x640 .f32 := Memref.whole cc0_scratch0
abbrev B12 : Memref sig .tc .vmem S15x128x6144 .fp8e5m2 := Memref.whole cc0_scratch1
abbrev B13 : Memref sig .tc .vmem S3x640 .f32 := Memref.whole cc0_scratch2
abbrev B14 : Memref sig .tc .vmem S15x2x128x6144 .fp8e4m3 := Memref.whole cc0_scratch3
abbrev B15 : Memref sig .tc .vmem S3x2x640 .f32 := Memref.whole cc0_scratch4
abbrev B16 : Memref sig .tc .vmem S3x2x640 .i32 := Memref.whole cc0_scratch5
abbrev B17 : Memref sig .tc .vmem S8x6144 .f32 := Memref.whole cc0_scratch6
abbrev B18 : Memref sig .tc .vmem S8x6144 .bf16 := Memref.whole cc0_scratch7
abbrev B19 : Memref sig .tc .vmem S24x6144 .f32 := Memref.whole cc0_scratch8
abbrev B20 : Memref sig .tc .vmem S8x128 .f32 := Memref.whole cc0_scratch9

/-- A buffer's contents, by its memref. -/
abbrev BufOf (F : FTy → Type) (c : Dev nD) {sp : Space} {S : Shape} {e : EltTy} (M : Memref sig .tc sp S e) : Type :=
  Buf (Elt F) (M.view.loc (c : Thread nD τ))
/-- A memref's buffer held whole. -/
abbrev pt (c : Dev nD) {sp : Space} {S : Shape} {e : EltTy} (M : Memref sig .tc sp S e) (f : BufOf F c M) : sProp 𝕄 :=
  M.view.loc (c : Thread nD τ) ↦{fullShare} f
/-- A memref's own elements held, of a buffer held piece by piece. -/
abbrev ptS (c : Dev nD) {sp : Space} {S : Shape} {e : EltTy} (M : Memref sig .tc sp S e) (f : BufOf F c M) : sProp 𝕄 :=
  M.view.loc (c : Thread nD τ) ↦[M.view.set]{fullShare} f

/-! ## The fifteen chunks: slot, source and semaphore of each, at the offsets the loop body spells -/

abbrev slotG (r : Fin 3 → ℕ) (h : ∀ a, r a + S1x128x6144.size a ≤ S15x128x6144.size a) : Memref sig .tc .vmem S128x6144 .fp8e5m2 :=
  (B12.slice (Rect.unit (s := S15x128x6144) r S1x128x6144.size h) (fun _ => rfl)).squeeze S128x6144 squeezes_S1x128x6144_S128x6144
abbrev srcG (r : Fin 3 → ℕ) (h : ∀ a, r a + S1x128x6144.size a ≤ S3x640x6144.size a) : Memref sig .tc .hbm S128x6144 .fp8e5m2 :=
  (A1.slice (Rect.unit (s := S3x640x6144) r S1x128x6144.size h) (fun _ => rfl)).squeeze S128x6144 squeezes_S1x128x6144_S128x6144
abbrev slotY (r : Fin 4 → ℕ) (h : ∀ a, r a + S1x2x128x6144.size a ≤ S15x2x128x6144.size a) : Memref sig .tc .vmem S2x128x6144 .fp8e4m3 :=
  (B14.slice (Rect.unit (s := S15x2x128x6144) r S1x2x128x6144.size h) (fun _ => rfl)).squeeze S2x128x6144 squeezes_S1x2x128x6144_S2x128x6144
abbrev srcY (r : Fin 4 → ℕ) (h : ∀ a, r a + S1x2x128x6144.size a ≤ S3x2x640x6144.size a) : Memref sig .tc .hbm S2x128x6144 .fp8e4m3 :=
  (A3.slice (Rect.unit (s := S3x2x640x6144) r S1x2x128x6144.size h) (fun _ => rfl)).squeeze S2x128x6144 squeezes_S1x2x128x6144_S2x128x6144
abbrev cellG (r : Fin 1 → ℕ) (h : ∀ a, r a + S1.size a ≤ S15.size a) : DmaSems sig S_ :=
  (cc0_scratch11.slice (Rect.unit (s := S15) r S1.size h)).squeeze S_ squeezes_S1_S_
abbrev cellY (r : Fin 1 → ℕ) (h : ∀ a, r a + S1.size a ≤ S15.size a) : DmaSems sig S_ :=
  (cc0_scratch12.slice (Rect.unit (s := S15) r S1.size h)).squeeze S_ squeezes_S1_S_

abbrev sG (k : Fin k0_t1_loop.trips) := slotG (k0_off2 k) (k0_off2_inb k)
abbrev hG (k : Fin k0_t1_loop.trips) := srcG (k0_off3 k) (k0_off3_inb k)
abbrev sY (k : Fin k0_t1_loop.trips) := slotY (k0_off4 k) (k0_off4_inb k)
abbrev hY (k : Fin k0_t1_loop.trips) := srcY (k0_off5 k) (k0_off5_inb k)
abbrev cG (k : Fin k0_t1_loop.trips) : SemLoc sig := SemLoc.dma (cellG (k0_off1 k) (k0_off1_inb k)).sem
abbrev cY (k : Fin k0_t1_loop.trips) : SemLoc sig := SemLoc.dma (cellY (k0_off1 k) (k0_off1_inb k)).sem

/-- Chunk `k`'s slot, or its source, held by its own elements at contents given for the whole buffer. -/
abbrev heldG (c : Dev nD) (k : Fin k0_t1_loop.trips) (f : BufOf F c B12) : sProp 𝕄 := ptS c (sG k) f
abbrev heldY (c : Dev nD) (k : Fin k0_t1_loop.trips) (f : BufOf F c B14) : sProp 𝕄 := ptS c (sY k) f
abbrev homeG (c : Dev nD) (k : Fin k0_t1_loop.trips) (f : BufOf F c A1) : sProp 𝕄 := ptS c (hG k) f
abbrev homeY (c : Dev nD) (k : Fin k0_t1_loop.trips) (f : BufOf F c A3) : sProp 𝕄 := ptS c (hY k) f

end Cert.KernelIdeal.Hand
end
-- ==== Proof.KITrip.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import proofs.«01_k».proof.Proof.KIPieces

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Chunk `k`'s transfer of `dy` in flight: its slot and its source come back when it is waited for. -/
abbrev flightG (c : Dev nD) (k : Fin k0_t1_loop.trips) (f : BufOf F c B12) (a : BufOf F c A1) : sProp 𝕄 :=
  Transfers.Flight (countersEmb (U := Pipeline.UD sig nD τ)) (c : Thread nD τ) (cG k) () (sG k).view.dmaCredit iprop(heldG c k f ∗ homeG c k a)
/-- Chunk `k`'s transfer of `y` in flight. -/
abbrev flightY (c : Dev nD) (k : Fin k0_t1_loop.trips) (f : BufOf F c B14) (a : BufOf F c A3) : sProp 𝕄 :=
  Transfers.Flight (countersEmb (U := Pipeline.UD sig nD τ)) (c : Thread nD τ) (cY k) () (sY k).view.dmaCredit iprop(heldY c k f ∗ homeY c k a)

set_option maxHeartbeats 0 in
/-- One trip of the chunk loop, at any chunk: what it leaves in the two row outputs and the two accumulators, with the run
    that leaves it. The chunk's two transfers are in flight before it and landed after it. -/
def trip (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f12 : BufOf F c B12) (f13 : BufOf F c B13) (f14 : BufOf F c B14)
    (f15 : BufOf F c B15) (f16 : BufOf F c B16) (f18 : BufOf F c B18) (k : Fin k0_t1_loop.trips)
    (f7 : BufOf F c M7) (f9 : BufOf F c M9) (f19 : BufOf F c B19) (f20 : BufOf F c B20) :
    { w : BufOf F c M7 × BufOf F c M9 × BufOf F c B19 × BufOf F c B20 //
      ∀ (defs₀' : Defs (nD := nD) (τ := τ) (sig := sig) (Val := Elt F) Λ₀) (𝒱₀ : Variants) (W : Waits sig Unit) (v194 : FVec F S8x128 .f32) (Q : PUnit → sProp 𝕄),
      iprop(pt c M7 f7 ∗ pt c M9 f9 ∗ pt c B11 f11 ∗ pt c B13 f13 ∗ pt c B15 f15 ∗ pt c B16 f16 ∗ pt c B18 f18 ∗ pt c B19 f19 ∗ pt c B20 f20
        ∗ flightG c k f12 a1 ∗ flightY c k f14 a3 ∗ owes (c : Thread nD τ) 0 W
        ∗ ((pt c M7 w.1 ∗ pt c M9 w.2.1 ∗ pt c B11 f11 ∗ pt c B13 f13 ∗ pt c B15 f15 ∗ pt c B16 f16 ∗ pt c B18 f18 ∗ pt c B19 w.2.2.1 ∗ pt c B20 w.2.2.2
            ∗ (semVal ((c : Thread nD τ), cG k) 0 ∗ heldG c k f12 ∗ homeG c k a1)
            ∗ (semVal ((c : Thread nD τ), cY k) 0 ∗ heldY c k f14 ∗ homeY c k a3)
            ∗ ∃ W', owes (c : Thread nD τ) 0 W') -∗ Q ()))
      ⊢ wp frame (wpE defs₀' 𝒱₀ (c : Thread nD τ) none) Set.univ
          (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k ()) Q } := by
  refine ⟨⟨?_, ?_, ?_, ?_⟩, fun defs₀' 𝒱₀ W v194 Q => ?run⟩
  case run =>
    iintro ⟨H7, H9, H11, H13, H15, H16, H18, H19, H20, Fg, Fy, HO, Hk⟩
    sl_exec_parts!
    sl_step
    iapply Hk
    isplitl [H7]; · iexact H7
    isplitl [H9]; · iexact H9
    isplitl [H11]; · iexact H11
    isplitl [H13]; · iexact H13
    isplitl [H15]; · iexact H15
    isplitl [H16]; · iexact H16
    isplitl [H18]; · iexact H18
    isplitl [H19]; · iexact H19
    isplitl [H20]; · iexact H20
    isplitl [Fg Fg_dst Fg_src]
    · isplitl [Fg]; · iexact Fg
      isplitl [Fg_dst]; · iexact Fg_dst
      iexact Fg_src
    isplitl [Fy Fy_dst Fy_src]
    · isplitl [Fy]; · iexact Fy
      isplitl [Fy_dst]; · iexact Fy_dst
      iexact Fy_src
    iexists _; iexact HO

end Cert.KernelIdeal.Hand
end
-- ==== Proof.KIFamily.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import proofs.«01_k».proof.Proof.KITrip
public import Idealize.ShloMosaic.Lib.Pipeline.Value
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The chunks, listed -/

theorem bigSep_chunks (Ψ : Fin k0_t1_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩ ∗ Ψ ⟨8, by decide⟩ ∗ Ψ ⟨9, by decide⟩ ∗ Ψ ⟨10, by decide⟩ ∗ Ψ ⟨11, by decide⟩ ∗ Ψ ⟨12, by decide⟩ ∗ Ψ ⟨13, by decide⟩ ∗ Ψ ⟨14, by decide⟩) := by
  rw [BI.bigSep_eq_bigSepL_of_eq ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩] : List (Fin k0_t1_loop.trips)) (by decide) (by decide)]; rfl

/-! ## What lands in the two rings: chunk `5 b + s` is rows `128 s … 128 s + 127` of batch `b` -/

/-- Where the ring's element comes from. -/
def gatherG (i : S15x128x6144.Idx) : S3x640x6144.Idx :=
  ValueIdx.ix3 (⟨(i 0).val / 5, by have := (i 0).isLt; change _ < 15 at this; omega⟩ : Fin 3)
    (⟨128 * ((i 0).val % 5) + (i 1).val, by have := (i 1).isLt; change _ < 128 at this; omega⟩ : Fin 640) (i 2)
def gatherY (i : S15x2x128x6144.Idx) : S3x2x640x6144.Idx :=
  ValueIdx.ix4 (⟨(i 0).val / 5, by have := (i 0).isLt; change _ < 15 at this; omega⟩ : Fin 3) (i 1)
    (⟨128 * ((i 0).val % 5) + (i 2).val, by have := (i 2).isLt; change _ < 128 at this; omega⟩ : Fin 640) (i 3)
/-- The `dy` ring with every chunk landed, and the `y` ring. -/
def ringG (c : Dev nD) (a : BufOf F c A1) : BufOf F c B12 := fun i => a (gatherG i)
def ringY (c : Dev nD) (a : BufOf F c A3) : BufOf F c B14 := fun i => a (gatherY i)

theorem k0_off3_eq : ∀ k : Fin k0_t1_loop.trips, k0_off3 k = ![k.val / 5, 128 * (k.val % 5), 0] := by decide +kernel
theorem k0_off5_eq : ∀ k : Fin k0_t1_loop.trips, k0_off5 k = ![k.val / 5, 0, 128 * (k.val % 5), 0] := by decide +kernel

theorem read_ringG (c : Dev nD) (k : Fin k0_t1_loop.trips) (a : BufOf F c A1) :
    (sG k).view.read (Elt F) (ringG c a) = (hG k).view.read (Elt F) a := by
  have hc : S1x128x6144.ShapeCasts S128x6144 := by decide
  show shapeCast S128x6144 (B12.view.readAt (Elt F) (Rect.unit (s := S15x128x6144) (k0_off2 k) S1x128x6144.size (k0_off2_inb k)).toLoadRect (ringG c a)) hc
    = shapeCast S128x6144 (A1.view.readAt (Elt F) (Rect.unit (s := S3x640x6144) (k0_off3 k) S1x128x6144.size (k0_off3_inb k)).toLoadRect a) hc
  refine congrArg (fun v => shapeCast S128x6144 v hc) ?_
  funext x
  change S1x128x6144.Idx at x
  show a (gatherG ((Rect.unit (s := S15x128x6144) (k0_off2 k) S1x128x6144.size (k0_off2_inb k)).toLoadRect.idx x))
    = a ((Rect.unit (s := S3x640x6144) (k0_off3 k) S1x128x6144.size (k0_off3_inb k)).toLoadRect.idx x)
  refine congrArg a ?_
  have hk : k.val < 15 := k.isLt
  have h0 : (x 0).val < 1 := (x 0).isLt
  have h1 : (x 1).val < 128 := (x 1).isLt
  funext d
  apply Fin.ext
  match d with
  | ⟨0, _⟩ =>
    show (k0_off2 k 0 + 1 * (x 0).val) / 5 = k0_off3 k 0 + 1 * (x 0).val
    rw [k0_off2_eq, k0_off3_eq]; show (k.val + 1 * (x 0).val) / 5 = k.val / 5 + 1 * (x 0).val; omega
  | ⟨1, _⟩ =>
    show 128 * ((k0_off2 k 0 + 1 * (x 0).val) % 5) + (k0_off2 k 1 + 1 * (x 1).val) = k0_off3 k 1 + 1 * (x 1).val
    rw [k0_off2_eq, k0_off3_eq]; show 128 * ((k.val + 1 * (x 0).val) % 5) + (0 + 1 * (x 1).val) = 128 * (k.val % 5) + 1 * (x 1).val; omega
  | ⟨2, _⟩ =>
    show k0_off2 k 2 + 1 * (x 2).val = k0_off3 k 2 + 1 * (x 2).val
    rw [k0_off2_eq, k0_off3_eq]; rfl

theorem read_ringY (c : Dev nD) (k : Fin k0_t1_loop.trips) (a : BufOf F c A3) :
    (sY k).view.read (Elt F) (ringY c a) = (hY k).view.read (Elt F) a := by
  have hc : S1x2x128x6144.ShapeCasts S2x128x6144 := by decide
  show shapeCast S2x128x6144 (B14.view.readAt (Elt F) (Rect.unit (s := S15x2x128x6144) (k0_off4 k) S1x2x128x6144.size (k0_off4_inb k)).toLoadRect (ringY c a)) hc
    = shapeCast S2x128x6144 (A3.view.readAt (Elt F) (Rect.unit (s := S3x2x640x6144) (k0_off5 k) S1x2x128x6144.size (k0_off5_inb k)).toLoadRect a) hc
  refine congrArg (fun v => shapeCast S2x128x6144 v hc) ?_
  funext x
  change S1x2x128x6144.Idx at x
  show a (gatherY ((Rect.unit (s := S15x2x128x6144) (k0_off4 k) S1x2x128x6144.size (k0_off4_inb k)).toLoadRect.idx x))
    = a ((Rect.unit (s := S3x2x640x6144) (k0_off5 k) S1x2x128x6144.size (k0_off5_inb k)).toLoadRect.idx x)
  refine congrArg a ?_
  have hk : k.val < 15 := k.isLt
  have h0 : (x 0).val < 1 := (x 0).isLt
  have h2 : (x 2).val < 128 := (x 2).isLt
  funext d
  apply Fin.ext
  match d with
  | ⟨0, _⟩ =>
    show (k0_off4 k 0 + 1 * (x 0).val) / 5 = k0_off5 k 0 + 1 * (x 0).val
    rw [k0_off4_eq, k0_off5_eq]; show (k.val + 1 * (x 0).val) / 5 = k.val / 5 + 1 * (x 0).val; omega
  | ⟨1, _⟩ =>
    show k0_off4 k 1 + 1 * (x 1).val = k0_off5 k 1 + 1 * (x 1).val
    rw [k0_off4_eq, k0_off5_eq]; rfl
  | ⟨2, _⟩ =>
    show 128 * ((k0_off4 k 0 + 1 * (x 0).val) % 5) + (k0_off4 k 2 + 1 * (x 2).val) = k0_off5 k 2 + 1 * (x 2).val
    rw [k0_off4_eq, k0_off5_eq]; show 128 * ((k.val + 1 * (x 0).val) % 5) + (0 + 1 * (x 2).val) = 128 * (k.val % 5) + 1 * (x 2).val; omega
  | ⟨3, _⟩ =>
    show k0_off4 k 3 + 1 * (x 3).val = k0_off5 k 3 + 1 * (x 3).val
    rw [k0_off4_eq, k0_off5_eq]; rfl

/-- Contents that a view reads alike agree on the view's own elements. -/
theorem agree_of_read {sp : Space} {S : Shape} {e : EltTy} (v : View sig .tc sp S e) (f g : v.ty.Contents (Elt F))
    (h : v.read (Elt F) f = v.read (Elt F) g) : ∀ i ∈ v.set, f i = g i := by
  intro i hi
  obtain ⟨x, rfl⟩ := View.exists_emb_of_mem_set v hi
  have hx := congrFun h x
  unfold View.read at hx
  exact cast_inj _ |>.mp hx

/-- A slot filled with its source's elements is the slot of the ring with every chunk landed. -/
theorem held_landedG (c : Dev nD) (k : Fin k0_t1_loop.trips) (f : BufOf F c B12) (a : BufOf F c A1) :
    (heldG c k ((sG k).view.writes (Elt F) f [⟨Rect.whole S128x6144, ReadAs.same.apply ((hG k).view.read (Elt F) a)⟩]) : sProp 𝕄)
      = heldG c k (ringG c a) := by
  exact pointsTo_congr (agree_of_read (sG k).view _ _ ((View.read_writes_whole (sG k).view f (ReadAs.same.apply ((hG k).view.read (Elt F) a))).trans (read_ringG c k a).symm))
theorem held_landedY (c : Dev nD) (k : Fin k0_t1_loop.trips) (f : BufOf F c B14) (a : BufOf F c A3) :
    (heldY c k ((sY k).view.writes (Elt F) f [⟨Rect.whole S2x128x6144, ReadAs.same.apply ((hY k).view.read (Elt F) a)⟩]) : sProp 𝕄)
      = heldY c k (ringY c a) := by
  exact pointsTo_congr (agree_of_read (sY k).view _ _ ((View.read_writes_whole (sY k).view f (ReadAs.same.apply ((hY k).view.read (Elt F) a))).trans (read_ringY c k a).symm))

/-! ## The chunks' family: in flight before their trip, landed after it -/

abbrev freeG (c : Dev nD) (k : Fin k0_t1_loop.trips) (f : BufOf F c B12) (a : BufOf F c A1) : sProp 𝕄 :=
  iprop(semVal ((c : Thread nD τ), cG k) 0 ∗ heldG c k f ∗ homeG c k a)
abbrev freeY (c : Dev nD) (k : Fin k0_t1_loop.trips) (f : BufOf F c B14) (a : BufOf F c A3) : sProp 𝕄 :=
  iprop(semVal ((c : Thread nD τ), cY k) 0 ∗ heldY c k f ∗ homeY c k a)
def Φc (c : Dev nD) (a1 : BufOf F c A1) (a3 : BufOf F c A3) (k : Fin k0_t1_loop.trips) (b : Bool) : sProp 𝕄 :=
  if b = true then iprop(flightG c k (ringG c a1) a1 ∗ flightY c k (ringY c a3) a3)
  else iprop(freeG c k (ringG c a1) a1 ∗ freeY c k (ringY c a3) a3)
/-- Before trip `k` the chunks from `k` on are in flight. -/
def stK (k : ℕ) : Fin k0_t1_loop.trips → Bool := fun j => decide (k ≤ j.val)
theorem stK_self (k : Fin k0_t1_loop.trips) : stK k.val k = true := by simp [stK]
theorem stK_succ (k : Fin k0_t1_loop.trips) : Function.update (stK k.val) k false = stK (k.val + 1) := by
  funext j
  by_cases hj : j = k
  · subst hj; rw [Function.update_self]; simp [stK]
  · rw [Function.update_of_ne hj]
    have hv : j.val ≠ k.val := fun h => hj (Fin.ext h)
    simp only [stK]
    by_cases h : k.val ≤ j.val
    · have : k.val + 1 ≤ j.val := by omega
      simp [h, this]
    · have : ¬ (k.val + 1 ≤ j.val) := by omega
      simp [h, this]

theorem pack_chunk (c : Dev nD) (k : Fin k0_t1_loop.trips) (f12 : BufOf F c B12) (f14 : BufOf F c B14) (a1 : BufOf F c A1) (a3 : BufOf F c A3) :
    iprop(flightG c k ((sG k).view.writes (Elt F) f12 [⟨Rect.whole S128x6144, ReadAs.same.apply ((hG k).view.read (Elt F) a1)⟩]) a1
      ∗ flightY c k ((sY k).view.writes (Elt F) f14 [⟨Rect.whole S2x128x6144, ReadAs.same.apply ((hY k).view.read (Elt F) a3)⟩]) a3)
    ⊢ Φc c a1 a3 k (stK 0 k) := by
  unfold flightG flightY
  rw [held_landedG, held_landedY]
  simp only [Φc, stK, Nat.zero_le, decide_true, ↓reduceIte]
  exact BI.BIBase.Entails.rfl

end Cert.KernelIdeal.Hand
end
-- ==== Proof.KILoop.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import proofs.«01_k».proof.Proof.KIFamily
public import proofs.«01_k».proof.Proof.Gen.KernelIdeal.Loops

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Steps taken one after another -/

/-- The first `m` of `n` steps, in order. -/
def iter {α : Type} {n : ℕ} (s : Fin n → α → α) : ℕ → α → α
  | 0, x => x
  | m + 1, x => if h : m < n then s ⟨m, h⟩ (iter s m x) else iter s m x
theorem iter_succ {α : Type} {n : ℕ} (s : Fin n → α → α) (k : Fin n) (x : α) : iter s (k.val + 1) x = s k (iter s k.val x) :=
  dif_pos k.isLt

/-! ## The loop -/

section Loop
attribute [local irreducible] trip
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)

/-- What trip `k` leaves in the two row outputs and the two accumulators. -/
def tripOut (k : Fin k0_t1_loop.trips) (x : BufOf F c M7 × BufOf F c M9 × BufOf F c B19 × BufOf F c B20) :
    BufOf F c M7 × BufOf F c M9 × BufOf F c B19 × BufOf F c B20 :=
  (trip c M7 h7 M8 h8 M9 h9 M10 h10 a1 a3 f11 (ringG c a1) f13 (ringY c a3) f15 f16 f18 k x.1 x.2.1 x.2.2.1 x.2.2.2).1

theorem tripOut_run (k : Fin k0_t1_loop.trips) (x : BufOf F c M7 × BufOf F c M9 × BufOf F c B19 × BufOf F c B20)
    (𝒱₀ : Variants) (W : Waits sig Unit) (v194 : FVec F S8x128 .f32) (Q : PUnit → sProp 𝕄) :
    iprop(pt c M7 x.1 ∗ pt c M9 x.2.1 ∗ pt c B11 f11 ∗ pt c B13 f13 ∗ pt c B15 f15 ∗ pt c B16 f16 ∗ pt c B18 f18 ∗ pt c B19 x.2.2.1 ∗ pt c B20 x.2.2.2
        ∗ flightG c k (ringG c a1) a1 ∗ flightY c k (ringY c a3) a3 ∗ owes (c : Thread nD τ) 0 W
        ∗ ((pt c M7 (tripOut c M7 h7 M8 h8 M9 h9 M10 h10 a1 a3 f11 f13 f15 f16 f18 k x).1 ∗ pt c M9 (tripOut c M7 h7 M8 h8 M9 h9 M10 h10 a1 a3 f11 f13 f15 f16 f18 k x).2.1
            ∗ pt c B11 f11 ∗ pt c B13 f13 ∗ pt c B15 f15 ∗ pt c B16 f16 ∗ pt c B18 f18
            ∗ pt c B19 (tripOut c M7 h7 M8 h8 M9 h9 M10 h10 a1 a3 f11 f13 f15 f16 f18 k x).2.2.1 ∗ pt c B20 (tripOut c M7 h7 M8 h8 M9 h9 M10 h10 a1 a3 f11 f13 f15 f16 f18 k x).2.2.2
            ∗ (semVal ((c : Thread nD τ), cG k) 0 ∗ heldG c k (ringG c a1) ∗ homeG c k a1)
            ∗ (semVal ((c : Thread nD τ), cY k) 0 ∗ heldY c k (ringY c a3) ∗ homeY c k a3)
            ∗ ∃ W', owes (c : Thread nD τ) 0 W') -∗ Q ()))
      ⊢ wp frame (wpE defs₀ 𝒱₀ (c : Thread nD τ) none) Set.univ
          (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k ()) Q :=
  (trip c M7 h7 M8 h8 M9 h9 M10 h10 a1 a3 f11 (ringG c a1) f13 (ringY c a3) f15 f16 f18 k x.1 x.2.1 x.2.2.1 x.2.2.2).2 defs₀ 𝒱₀ W v194 Q

/-- What the trips before `n` leave. -/
abbrev after (n : ℕ) (x : BufOf F c M7 × BufOf F c M9 × BufOf F c B19 × BufOf F c B20) :=
  iter (tripOut c M7 h7 M8 h8 M9 h9 M10 h10 a1 a3 f11 f13 f15 f16 f18) n x

attribute [local irreducible] tripOut

variable (x0 : BufOf F c M7 × BufOf F c M9 × BufOf F c B19 × BufOf F c B20)

/-- Before trip `k`. -/
def inv (k : ℕ) (_ : PUnit) : sProp 𝕄 :=
  iprop(Ring.AtW (Φc c a1 a3) (stK k) ∗ (∃ W, owes (c : Thread nD τ) 0 W)
    ∗ pt c M7 (after c M7 h7 M8 h8 M9 h9 M10 h10 a1 a3 f11 f13 f15 f16 f18 k x0).1 ∗ pt c M9 (after c M7 h7 M8 h8 M9 h9 M10 h10 a1 a3 f11 f13 f15 f16 f18 k x0).2.1
    ∗ pt c B11 f11 ∗ pt c B13 f13 ∗ pt c B15 f15 ∗ pt c B16 f16 ∗ pt c B18 f18
    ∗ pt c B19 (after c M7 h7 M8 h8 M9 h9 M10 h10 a1 a3 f11 f13 f15 f16 f18 k x0).2.2.1 ∗ pt c B20 (after c M7 h7 M8 h8 M9 h9 M10 h10 a1 a3 f11 f13 f15 f16 f18 k x0).2.2.2)

theorem inv_step (𝒱₀ : Variants) (v194 : FVec F S8x128 .f32) (k : Fin k0_t1_loop.trips) (acc : PUnit) :
    inv c M7 h7 M8 h8 M9 h9 M10 h10 a1 a3 f11 f13 f15 f16 f18 x0 k.val acc
      ⊢ wp frame (wpE defs₀ 𝒱₀ (c : Thread nD τ) none) Set.univ (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 k acc)
        (inv c M7 h7 M8 h8 M9 h9 M10 h10 a1 a3 f11 f13 f15 f16 f18 x0 (k.val + 1)) := by
  unfold inv after
  rw [← stK_succ k, iter_succ, Ring.AtW_focus (Φc c a1 a3) (stK k.val) k, stK_self]
  iintro ⟨⟨Hk, Hrest⟩, ⟨%W, HO⟩, H7, H9, H11, H13, H15, H16, H18, H19, H20⟩
  simp only [Φc, ↓reduceIte]
  icases Hk with ⟨Fg, Fy⟩
  iapply (tripOut_run c M7 h7 M8 h8 M9 h9 M10 h10 a1 a3 f11 f13 f15 f16 f18 k _ 𝒱₀ W v194 _)
  isplitl [H7]; · iexact H7
  isplitl [H9]; · iexact H9
  isplitl [H11]; · iexact H11
  isplitl [H13]; · iexact H13
  isplitl [H15]; · iexact H15
  isplitl [H16]; · iexact H16
  isplitl [H18]; · iexact H18
  isplitl [H19]; · iexact H19
  isplitl [H20]; · iexact H20
  isplitl [Fg]; · iexact Fg
  isplitl [Fy]; · iexact Fy
  isplitl [HO]; · iexact HO
  iintro ⟨H7, H9, H11, H13, H15, H16, H18, H19, H20, Fg, Fy, HO⟩
  isplitl [Hrest Fg Fy]
  · iapply (Ring.AtW_update (Φc c a1 a3) (stK k.val) k false)
    isplitr [Hrest]
    · simp only [Φc, Bool.false_eq_true, ↓reduceIte]
      isplitl [Fg]; · iexact Fg
      iexact Fy
    · iexact Hrest
  isplitl [HO]; · iexact HO
  isplitl [H7]; · iexact H7
  isplitl [H9]; · iexact H9
  isplitl [H11]; · iexact H11
  isplitl [H13]; · iexact H13
  isplitl [H15]; · iexact H15
  isplitl [H16]; · iexact H16
  isplitl [H18]; · iexact H18
  isplitl [H19]; · iexact H19
  iexact H20

set_option maxHeartbeats 4000000 in
set_option warn.classDefReducibility false in
/-- The chunk loop's invariant. -/
def loopInv (𝒱₀ : Variants) (v194 : FVec F S8x128 .f32) :
    LoopInvTy_k0_t1 (F := F) Unit ℕ (Pipeline.UD sig nD τ) ℕ 𝒱₀ c none Set.univ A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12 v194 where
  inv := inv c M7 h7 M8 h8 M9 h9 M10 h10 a1 a3 f11 f13 f15 f16 f18 x0
  step := by
    intro k acc
    exact inv_step c M7 h7 M8 h8 M9 h9 M10 h10 a1 a3 f11 f13 f15 f16 f18 x0 𝒱₀ v194 k acc

end Loop

end Cert.KernelIdeal.Hand
end
-- ==== Proof.KIBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import proofs.«01_k».proof.Proof.KILoop

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A whole buffer overwritten by a whole payload holds the payload. -/
theorem pt_landed (c : Dev nD) (b : Ref sig .tc) (f w : b.ty.Contents (Elt F)) :
    (pt c (Memref.whole b) (View.write (Elt F) (Memref.whole b).view f w Finset.univ) : sProp 𝕄) ⊢ pt c (Memref.whole b) w := by
  have h : View.write (Elt F) (Memref.whole b).view f w Finset.univ = w := View.write_whole_univ b f w
  rw [h]

/-- A store of the buffer's own extents leaves its payload. -/
theorem writes_full {sp : Space} {S : Shape} {e : EltTy} (v : View sig .tc sp S e) (f : v.ty.Contents (Elt F)) (w : v.ty.Contents (Elt F))
    {off : Fin S.rank → ℕ} (inb : ∀ a, off a + S.size a ≤ S.size a) (p : (Rect.unit off S.size inb).shape.Idx → Elt F e)
    (hw : v.read (Elt F) w = p) (hv : v.set = Finset.univ) : v.writes (Elt F) f [⟨Rect.unit off S.size inb, p⟩] = w := by
  funext i
  exact agree_of_read v _ _ ((View.read_writes_full v f inb p []).trans hw.symm) i (hv ▸ Finset.mem_univ i)

theorem bigSep_six {n : ℕ} (A B C D E G : Fin n → sProp 𝕄) :
    bigSep Finset.univ (fun k => iprop((A k ∗ B k ∗ C k) ∗ (D k ∗ E k ∗ G k)))
      = iprop((bigSep Finset.univ A ∗ bigSep Finset.univ B ∗ bigSep Finset.univ C) ∗ (bigSep Finset.univ D ∗ bigSep Finset.univ E ∗ bigSep Finset.univ G)) := by
  rw [bigSep_sep' Finset.univ (fun k => iprop(A k ∗ B k ∗ C k)) (fun k => iprop(D k ∗ E k ∗ G k)),
    bigSep_sep' Finset.univ A (fun k => iprop(B k ∗ C k)), bigSep_sep' Finset.univ B C,
    bigSep_sep' Finset.univ D (fun k => iprop(E k ∗ G k)), bigSep_sep' Finset.univ E G]

/-- Every chunk's cell at zero, every slot landed, every source handed back. -/
def backG (c : Dev nD) (a1 : BufOf F c A1) : sProp 𝕄 :=
  iprop(bigSep Finset.univ (fun k => semVal ((c : Thread nD τ), cG k) 0) ∗ bigSep Finset.univ (fun k => heldG c k (ringG c a1)) ∗ bigSep Finset.univ (fun k => homeG c k a1))
def backY (c : Dev nD) (a3 : BufOf F c A3) : sProp 𝕄 :=
  iprop(bigSep Finset.univ (fun k => semVal ((c : Thread nD τ), cY k) 0) ∗ bigSep Finset.univ (fun k => heldY c k (ringY c a3)) ∗ bigSep Finset.univ (fun k => homeY c k a3))

/-- After the last trip every chunk is landed. -/
theorem unpack_all (c : Dev nD) (a1 : BufOf F c A1) (a3 : BufOf F c A3) :
    Ring.AtW (Φc c a1 a3) (stK k0_t1_loop.trips)
      ⊢ (iprop(backG c a1
          ∗ backY c a3) : sProp 𝕄) := by
  unfold Ring.AtW backG backY
  rw [show (fun k => Φc c a1 a3 k (stK k0_t1_loop.trips k)) = fun k => iprop((semVal ((c : Thread nD τ), cG k) 0 ∗ heldG c k (ringG c a1) ∗ homeG c k a1) ∗ (semVal ((c : Thread nD τ), cY k) 0 ∗ heldY c k (ringY c a3) ∗ homeY c k a3)) from by
    funext k
    have hk : ¬ k0_t1_loop.trips ≤ k.val := Nat.not_le.mpr k.isLt
    simp only [Φc, stK, hk, decide_false, Bool.false_eq_true, ↓reduceIte]]
  rw [bigSep_six]

set_option maxHeartbeats 0 in
/-- One run of the kernel's body, with the contents it leaves in the two late outputs. -/
def bodyRun (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (f7 : BufOf F c M7) (f8 : BufOf F c M8) (f9 : BufOf F c M9) (f10 : BufOf F c M10)
    (a0 : BufOf F c A0) (a1 : BufOf F c A1) (a2 : BufOf F c A2) (a3 : BufOf F c A3) (a4 : BufOf F c A4) (a5 : BufOf F c A5) (a6 : BufOf F c A6) :
    { w : BufOf F c M8 × BufOf F c M10 // ∀ (𝒱₀ : Variants) (W : Waits sig Unit)
      (f11 : BufOf F c B11) (f12 : BufOf F c B12) (f13 : BufOf F c B13) (f14 : BufOf F c B14) (f15 : BufOf F c B15) (f16 : BufOf F c B16)
      (f17 : BufOf F c B17) (f18 : BufOf F c B18) (f19 : BufOf F c B19) (f20 : BufOf F c B20) (Q : PUnit → sProp 𝕄),
    iprop(pt c A0 a0 ∗ pt c A2 a2 ∗ pt c A4 a4 ∗ pt c A5 a5 ∗ pt c A6 a6
      ∗ pt c M7 f7 ∗ pt c M8 f8 ∗ pt c M9 f9 ∗ pt c M10 f10
      ∗ pt c B11 f11 ∗ pt c B13 f13 ∗ pt c B15 f15 ∗ pt c B16 f16 ∗ pt c B17 f17 ∗ pt c B18 f18 ∗ pt c B19 f19 ∗ pt c B20 f20
      ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
      ∗ bigSep Finset.univ (fun k => heldG c k f12) ∗ bigSep Finset.univ (fun k => heldY c k f14)
      ∗ bigSep Finset.univ (fun k => homeG c k a1) ∗ bigSep Finset.univ (fun k => homeY c k a3)
      ∗ owes (c : Thread nD τ) 0 W
      ∗ ((pt c A0 a0 ∗ pt c A2 a2 ∗ pt c A4 a4 ∗ pt c A5 a5 ∗ pt c A6 a6
        ∗ pt c M7 (after c M7 h7 M8 h8 M9 h9 M10 h10 a1 a3 a0 a2 a4 a5 (k0_pay1404 a6) k0_t1_loop.trips (f7, f9, k0_pay1401, k0_pay1403 k0_pay1402)).1 ∗ pt c M8 w.1
        ∗ pt c M9 (after c M7 h7 M8 h8 M9 h9 M10 h10 a1 a3 a0 a2 a4 a5 (k0_pay1404 a6) k0_t1_loop.trips (f7, f9, k0_pay1401, k0_pay1403 k0_pay1402)).2.1 ∗ pt c M10 w.2
        ∗ (∃ f, pt c B11 f) ∗ (∃ f, pt c B13 f) ∗ (∃ f, pt c B15 f) ∗ (∃ f, pt c B16 f) ∗ (∃ f, pt c B17 f) ∗ (∃ f, pt c B18 f) ∗ (∃ f, pt c B19 f) ∗ (∃ f, pt c B20 f)
        ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
        ∗ backG c a1
        ∗ backY c a3
        ∗ ∃ W', owes (c : Thread nD τ) 0 W') -∗ Q ()))
    ⊢ wp frame (wpE defs₀ 𝒱₀ (c : Thread nD τ) none) Set.univ
        (cc0__body A0 (Memref.isWhole_whole _) A1 (Memref.isWhole_whole _) A2 (Memref.isWhole_whole _) A3 (Memref.isWhole_whole _) A4 (Memref.isWhole_whole _) A5 (Memref.isWhole_whole _) A6 (Memref.isWhole_whole _) M7 h7 M8 h8 M9 h9 M10 h10 B11 (Memref.isWhole_whole _) B12 (Memref.isWhole_whole _) B13 (Memref.isWhole_whole _) B14 (Memref.isWhole_whole _) B15 (Memref.isWhole_whole _) B16 (Memref.isWhole_whole _) B17 (Memref.isWhole_whole _) B18 (Memref.isWhole_whole _) B19 (Memref.isWhole_whole _) B20 (Memref.isWhole_whole _) cc0_scratch10 cc0_scratch11 cc0_scratch12) Q } := by
  refine ⟨⟨?_, ?_⟩, fun 𝒱₀ W f11 f12 f13 f14 f15 f16 f17 f18 f19 f20 Q => ?run⟩
  case run =>
    rw [bigSep_chunks (fun k => heldG c k f12), bigSep_chunks (fun k => heldY c k f14), bigSep_chunks (fun k => homeG c k a1), bigSep_chunks (fun k => homeY c k a3)]
    iintro ⟨Ha0, Ha2, Ha4, Ha5, Ha6, H7, H8, H9, H10, H11, H13, H15, H16, H17, H18, H19, H20, ⟨Hs0, Hs1, Hs2, Hs3, Hs4, Hx0, Hx1, Hx2, Hx3, Hx4, Hx5, Hx6, Hx7, Hx8, Hx9, Hx10, Hx11, Hx12, Hx13, Hx14, Hy0, Hy1, Hy2, Hy3, Hy4, Hy5, Hy6, Hy7, Hy8, Hy9, Hy10, Hy11, Hy12, Hy13, Hy14⟩, ⟨Sg0, Sg1, Sg2, Sg3, Sg4, Sg5, Sg6, Sg7, Sg8, Sg9, Sg10, Sg11, Sg12, Sg13, Sg14⟩, ⟨Sy0, Sy1, Sy2, Sy3, Sy4, Sy5, Sy6, Sy7, Sy8, Sy9, Sy10, Sy11, Sy12, Sy13, Sy14⟩, ⟨Rg0, Rg1, Rg2, Rg3, Rg4, Rg5, Rg6, Rg7, Rg8, Rg9, Rg10, Rg11, Rg12, Rg13, Rg14⟩, ⟨Ry0, Ry1, Ry2, Ry3, Ry4, Ry5, Ry6, Ry7, Ry8, Ry9, Ry10, Ry11, Ry12, Ry13, Ry14⟩, HO, Hk⟩
    sl_exec_parts
    ihave HA : Ring.AtW (Φc c a1 a3) (stK 0) $$ [Hx0 Hy0 Hx1 Hy1 Hx2 Hy2 Hx3 Hy3 Hx4 Hy4 Hx5 Hy5 Hx6 Hy6 Hx7 Hy7 Hx8 Hy8 Hx9 Hy9 Hx10 Hy10 Hx11 Hy11 Hx12 Hy12 Hx13 Hy13 Hx14 Hy14]
    · unfold Ring.AtW
      rw [bigSep_chunks]
      isplitl [Hx0 Hy0]
      · iapply (pack_chunk c _ f12 f14 a1 a3)
        isplitl [Hx0]
        · iexact Hx0
        iexact Hy0
      isplitl [Hx1 Hy1]
      · iapply (pack_chunk c _ f12 f14 a1 a3)
        isplitl [Hx1]
        · iexact Hx1
        iexact Hy1
      isplitl [Hx2 Hy2]
      · iapply (pack_chunk c _ f12 f14 a1 a3)
        isplitl [Hx2]
        · iexact Hx2
        iexact Hy2
      isplitl [Hx3 Hy3]
      · iapply (pack_chunk c _ f12 f14 a1 a3)
        isplitl [Hx3]
        · iexact Hx3
        iexact Hy3
      isplitl [Hx4 Hy4]
      · iapply (pack_chunk c _ f12 f14 a1 a3)
        isplitl [Hx4]
        · iexact Hx4
        iexact Hy4
      isplitl [Hx5 Hy5]
      · iapply (pack_chunk c _ f12 f14 a1 a3)
        isplitl [Hx5]
        · iexact Hx5
        iexact Hy5
      isplitl [Hx6 Hy6]
      · iapply (pack_chunk c _ f12 f14 a1 a3)
        isplitl [Hx6]
        · iexact Hx6
        iexact Hy6
      isplitl [Hx7 Hy7]
      · iapply (pack_chunk c _ f12 f14 a1 a3)
        isplitl [Hx7]
        · iexact Hx7
        iexact Hy7
      isplitl [Hx8 Hy8]
      · iapply (pack_chunk c _ f12 f14 a1 a3)
        isplitl [Hx8]
        · iexact Hx8
        iexact Hy8
      isplitl [Hx9 Hy9]
      · iapply (pack_chunk c _ f12 f14 a1 a3)
        isplitl [Hx9]
        · iexact Hx9
        iexact Hy9
      isplitl [Hx10 Hy10]
      · iapply (pack_chunk c _ f12 f14 a1 a3)
        isplitl [Hx10]
        · iexact Hx10
        iexact Hy10
      isplitl [Hx11 Hy11]
      · iapply (pack_chunk c _ f12 f14 a1 a3)
        isplitl [Hx11]
        · iexact Hx11
        iexact Hy11
      isplitl [Hx12 Hy12]
      · iapply (pack_chunk c _ f12 f14 a1 a3)
        isplitl [Hx12]
        · iexact Hx12
        iexact Hy12
      isplitl [Hx13 Hy13]
      · iapply (pack_chunk c _ f12 f14 a1 a3)
        isplitl [Hx13]
        · iexact Hx13
        iexact Hy13
      iapply (pack_chunk c _ f12 f14 a1 a3)
      isplitl [Hx14]
      · iexact Hx14
      iexact Hy14
    ihave H11 : pt c B11 a0 $$ [H11]
    · iapply (pt_landed c B11.view.ref f11 a0); iexact H11
    ihave H13 : pt c B13 a2 $$ [H13]
    · iapply (pt_landed c B13.view.ref f13 a2); iexact H13
    ihave H15 : pt c B15 a4 $$ [H15]
    · iapply (pt_landed c B15.view.ref f15 a4); iexact H15
    ihave H16 : pt c B16 a5 $$ [H16]
    · iapply (pt_landed c B16.view.ref f16 a5); iexact H16
    ihave H17 : pt c B17 a6 $$ [H17]
    · iapply (pt_landed c B17.view.ref f17 a6); iexact H17
    have e18 : B18.view.writes (Elt F) B18.view.junk (bodyRun.sl.H18_1 c a6 f17) = (k0_pay1404 a6 : BufOf F c B18) := by
      refine writes_full B18.view B18.view.junk (k0_pay1404 a6 : BufOf F c B18) inb_S8x6144_S8x6144_0_0 _ ?_ (View.set_whole _)
      refine congrArg k0_pay1404 (Eq.symm ?_)
      exact (View.readAt_full B17.view _ inb_S8x6144_S8x6144_0_0).trans (View.write_whole_univ B17.view.ref f17 a6)
    rw [e18]
    have e19 : B19.view.writes (Elt F) B19.view.junk bodyRun.sl.H19_1 = (k0_pay1401 : BufOf F c B19) :=
      writes_full B19.view B19.view.junk (k0_pay1401 : BufOf F c B19) inb_S24x6144_S24x6144_0_0 _ rfl (View.set_whole _)
    rw [e19]
    have e20 : B20.view.writes (Elt F) B20.view.junk bodyRun.sl.H20_1 = (k0_pay1403 k0_pay1402 : BufOf F c B20) :=
      writes_full B20.view B20.view.junk (k0_pay1403 k0_pay1402 : BufOf F c B20) inb_S8x128_S8x128_0_0 _ rfl (View.set_whole _)
    rw [e20]
    let L := loopInv c M7 h7 M8 h8 M9 h9 M10 h10 a1 a3 a0 a2 a4 a5 (k0_pay1404 a6) (f7, f9, k0_pay1401, k0_pay1403 k0_pay1402) 𝒱₀ k0_pay1402
    sl_exec
    sl_step
    ihave HB : iprop(backG c a1 ∗ backY c a3) $$ [HA]
    · iapply (unpack_all c a1 a3); iexact HA
    icases HB with ⟨HBG, HBY⟩
    iapply Hk
    isplitl [Ha0]; · iexact Ha0
    isplitl [Ha2]; · iexact Ha2
    isplitl [Ha4]; · iexact Ha4
    isplitl [Ha5]; · iexact Ha5
    isplitl [Ha6]; · iexact Ha6
    isplitl [H7]; · iexact H7
    isplitl [H8]; · iexact H8
    isplitl [H9]; · iexact H9
    isplitl [H10]; · iexact H10
    isplitl [H11]; · iexists _; iexact H11
    isplitl [H13]; · iexists _; iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [HBG]; · iexact HBG
    isplitl [HBY]; · iexact HBY
    iexists _; iexact HO

end Cert.KernelIdeal.Hand
end
-- ==== Proof.KIStep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import proofs.«01_k».proof.Proof.KIBody
public import Idealize.ShloMosaic.Lib.WritesUnit
public import proofs.«01_k».proof.Proof.Gen.KernelIdeal.Loops

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## One trip, output by output -/

section Step
variable (c : Dev nD)
    (f11 : BufOf F c B11) (f12 : BufOf F c B12) (f13 : BufOf F c B13) (f14 : BufOf F c B14)
    (f15 : BufOf F c B15) (f16 : BufOf F c B16) (f18 : BufOf F c B18) (k : Fin k0_t1_loop.trips)

/-- The gradient rows a trip stores. -/
def payD : (Rect.unit (s := S3x8x640) (k0_off57 k) S1x8x128.size (k0_off57_inb k)).shape.Idx → Elt F .f32 :=
  k0_pay1406 (trip.sl.r_3 c f16 k) (trip.sl.r_1002 c f12 f13 f14 f15 f16 f18 k) (trip.sl.r_1003 c f12 f13 f14 f15 k)
/-- The softmax rows a trip stores. -/
def payS : (Rect.unit (s := S3x8x640) (k0_off57 k) S1x8x128.size (k0_off57_inb k)).shape.Idx → Elt F .f32 :=
  k0_pay1407 (trip.sl.r_3 c f16 k) (trip.sl.r_1002 c f12 f13 f14 f15 f16 f18 k) (trip.sl.r_1003 c f12 f13 f14 f15 k)
    (View.readAt (Elt F) B11.view (Rect.unit (s := S3x8x640) (k0_off57 k) S1x8x128.size (k0_off57_inb k)).toLoadRect f11)
/-- The weighted sums after a trip, and the counts after it. -/
def sumStep (x : BufOf F c B19) : BufOf F c B19 := B19.view.writes (Elt F) B19.view.junk (trip.sl.H19_24 c f14 f15 f16 k x)
def cntStep (x : BufOf F c B20) : BufOf F c B20 := B20.view.writes (Elt F) B20.view.junk (trip.sl.H20_1 c f16 k x)
end Step

section Out
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)

theorem tripOut_eq (k : Fin k0_t1_loop.trips) (x : BufOf F c M7 × BufOf F c M9 × BufOf F c B19 × BufOf F c B20) :
    tripOut c M7 h7 M8 h8 M9 h9 M10 h10 a1 a3 f11 f13 f15 f16 f18 k x
      = (M7.view.writes (Elt F) x.1 [⟨Rect.unit (k0_off57 k) S1x8x128.size (k0_off57_inb k), payS c f11 (ringG c a1) f13 (ringY c a3) f15 f16 f18 k⟩],
         M9.view.writes (Elt F) x.2.1 [⟨Rect.unit (k0_off57 k) S1x8x128.size (k0_off57_inb k), payD c (ringG c a1) f13 (ringY c a3) f15 f16 f18 k⟩],
         sumStep c (ringY c a3) f15 f16 k x.2.2.1, cntStep c f16 k x.2.2.2) := rfl

theorem after_succ (n : ℕ) (hn : n < k0_t1_loop.trips) (x : BufOf F c M7 × BufOf F c M9 × BufOf F c B19 × BufOf F c B20) :
    after c M7 h7 M8 h8 M9 h9 M10 h10 a1 a3 f11 f13 f15 f16 f18 (n + 1) x
      = tripOut c M7 h7 M8 h8 M9 h9 M10 h10 a1 a3 f11 f13 f15 f16 f18 ⟨n, hn⟩ (after c M7 h7 M8 h8 M9 h9 M10 h10 a1 a3 f11 f13 f15 f16 f18 n x) :=
  iter_succ _ (⟨n, hn⟩ : Fin k0_t1_loop.trips) x

attribute [local irreducible] tripOut payS payD sumStep cntStep

/-- The accumulators do not see the row outputs. -/
theorem after_sums (n : ℕ) (hn : n ≤ k0_t1_loop.trips) (x : BufOf F c M7 × BufOf F c M9 × BufOf F c B19 × BufOf F c B20) :
    (after c M7 h7 M8 h8 M9 h9 M10 h10 a1 a3 f11 f13 f15 f16 f18 n x).2.2
      = (iter (sumStep c (ringY c a3) f15 f16) n x.2.2.1, iter (cntStep c f16) n x.2.2.2) := by
  induction n with
  | zero => rfl
  | succ n ih =>
    have hn' : n < k0_t1_loop.trips := hn
    rw [after_succ c M7 h7 M8 h8 M9 h9 M10 h10 a1 a3 f11 f13 f15 f16 f18 n hn', tripOut_eq]
    rw [iter_succ (sumStep c (ringY c a3) f15 f16) (⟨n, hn'⟩ : Fin k0_t1_loop.trips), iter_succ (cntStep c f16) (⟨n, hn'⟩ : Fin k0_t1_loop.trips)]
    have e := ih (Nat.le_of_lt hn')
    have e1 := congrArg Prod.fst e
    have e2 := congrArg Prod.snd e
    simp only at e1 e2
    simp only [e1, e2]

end Out

/-! ## Fifteen blocks of rows, stored one after another -/

theorem k0_off57_eq : ∀ k : Fin k0_t1_loop.trips, k0_off57 k = ![k.val / 5, 0, 128 * (k.val % 5)] := by decide +kernel

/-- The chunk a row belongs to, and the row's place in it. -/
def chunkOf (i : S3x8x640.Idx) : Fin k0_t1_loop.trips :=
  ⟨5 * (i 0).val + (i 2).val / 128, by have h0 : (i 0).val < 3 := (i 0).isLt; have h2 : (i 2).val < 640 := (i 2).isLt; show _ < 15; omega⟩
def laneOf (i : S3x8x640.Idx) : S1x8x128.Idx :=
  ValueIdx.ix3 (0 : Fin 1) (i 1) (⟨(i 2).val % 128, Nat.mod_lt _ (by decide)⟩ : Fin 128)

/-- The rows put together from the chunks' blocks. -/
def rows {α : Type} (P : Fin k0_t1_loop.trips → S1x8x128.Idx → α) (i : S3x8x640.Idx) : α := P (chunkOf i) (laneOf i)

theorem read_rows {sp : Space} (v : View sig .tc sp S3x8x640 .f32) (f : v.ty.Contents (Elt F)) (P : Fin k0_t1_loop.trips → S1x8x128.Idx → Elt F .f32)
    (s : ℕ → v.ty.Contents (Elt F)) (h0 : s 0 = f)
    (hs : ∀ n (hn : n < k0_t1_loop.trips), s (n + 1) = v.writes (Elt F) (s n) [⟨Rect.unit (k0_off57 ⟨n, hn⟩) S1x8x128.size (k0_off57_inb ⟨n, hn⟩), P ⟨n, hn⟩⟩])
    (n : ℕ) (hn : n ≤ k0_t1_loop.trips) (i : S3x8x640.Idx) (hi : (chunkOf i).val < n) :
    v.read (Elt F) (s n) i = rows P i := by
  induction n with
  | zero => exact absurd hi (Nat.not_lt_zero _)
  | succ n ih =>
    have hn' : n < k0_t1_loop.trips := hn
    have i0 : (i 0).val < 3 := (i 0).isLt
    have i1 : (i 1).val < 8 := (i 1).isLt
    have i2 : (i 2).val < 640 := (i 2).isLt
    have hk : (chunkOf i).val = 5 * (i 0).val + (i 2).val / 128 := rfl
    have hm := Nat.div_add_mod (i 2).val 128
    have hml := Nat.mod_lt (i 2).val (show 0 < 128 by decide)
    have hq : (i 2).val / 128 < 5 := by omega
    rw [hs n hn']
    by_cases hc : (chunkOf i).val = n
    · have hcf : (⟨n, hn'⟩ : Fin k0_t1_loop.trips) = chunkOf i := Fin.ext hc.symm
      rw [View.read_writes_cons_unit_of_mem v (s n) (k0_off57_inb ⟨n, hn'⟩) (P ⟨n, hn'⟩) [] i (laneOf i) (k0_off57_eq ⟨n, hn'⟩) (by
        intro a
        match a with
        | ⟨0, _⟩ => show (i 0).val = n / 5 + 0; omega
        | ⟨1, _⟩ => show (i 1).val = 0 + (i 1).val; omega
        | ⟨2, _⟩ => show (i 2).val = 128 * (n % 5) + (i 2).val % 128; omega)]
      unfold rows; rw [hcf]
    · have hlt : (chunkOf i).val < n := by omega
      by_cases hb : (i 0).val = n / 5
      · rw [View.read_writes_cons_unit_of_not_mem v (s n) (k0_off57_inb ⟨n, hn'⟩) (P ⟨n, hn'⟩) [] i (k0_off57_eq ⟨n, hn'⟩) (2 : Fin 3) (by
          show (i 2).val < 128 * (n % 5) ∨ 128 * (n % 5) + 128 ≤ (i 2).val; left; omega)]
        exact ih (Nat.le_of_lt hn') hlt
      · rw [View.read_writes_cons_unit_of_not_mem v (s n) (k0_off57_inb ⟨n, hn'⟩) (P ⟨n, hn'⟩) [] i (k0_off57_eq ⟨n, hn'⟩) (0 : Fin 3) (by
          show (i 0).val < n / 5 ∨ n / 5 + 1 ≤ (i 0).val; omega)]
        exact ih (Nat.le_of_lt hn') hlt

section Rows
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (a1 : BufOf F c A1) (a3 : BufOf F c A3) (f11 : BufOf F c B11) (f13 : BufOf F c B13)
    (f15 : BufOf F c B15) (f16 : BufOf F c B16) (f18 : BufOf F c B18)
    (x : BufOf F c M7 × BufOf F c M9 × BufOf F c B19 × BufOf F c B20)

attribute [local irreducible] tripOut payS payD sumStep cntStep

theorem read_after7 :
    M7.view.read (Elt F) (after c M7 h7 M8 h8 M9 h9 M10 h10 a1 a3 f11 f13 f15 f16 f18 k0_t1_loop.trips x).1
      = rows (fun k => payS c f11 (ringG c a1) f13 (ringY c a3) f15 f16 f18 k) := by
  funext i
  refine read_rows M7.view x.1 (fun k => payS c f11 (ringG c a1) f13 (ringY c a3) f15 f16 f18 k)
    (fun n => (after c M7 h7 M8 h8 M9 h9 M10 h10 a1 a3 f11 f13 f15 f16 f18 n x).1) rfl (fun n hn => ?_) k0_t1_loop.trips le_rfl i (chunkOf i).isLt
  show (after c M7 h7 M8 h8 M9 h9 M10 h10 a1 a3 f11 f13 f15 f16 f18 (n + 1) x).1 = _
  rw [after_succ c M7 h7 M8 h8 M9 h9 M10 h10 a1 a3 f11 f13 f15 f16 f18 n hn, tripOut_eq]

theorem read_after9 :
    M9.view.read (Elt F) (after c M7 h7 M8 h8 M9 h9 M10 h10 a1 a3 f11 f13 f15 f16 f18 k0_t1_loop.trips x).2.1
      = rows (fun k => payD c (ringG c a1) f13 (ringY c a3) f15 f16 f18 k) := by
  funext i
  refine read_rows M9.view x.2.1 (fun k => payD c (ringG c a1) f13 (ringY c a3) f15 f16 f18 k)
    (fun n => (after c M7 h7 M8 h8 M9 h9 M10 h10 a1 a3 f11 f13 f15 f16 f18 n x).2.1) rfl (fun n hn => ?_) k0_t1_loop.trips le_rfl i (chunkOf i).isLt
  show (after c M7 h7 M8 h8 M9 h9 M10 h10 a1 a3 f11 f13 f15 f16 f18 (n + 1) x).2.1 = _
  rw [after_succ c M7 h7 M8 h8 M9 h9 M10 h10 a1 a3 f11 f13 f15 f16 f18 n hn, tripOut_eq]

end Rows

section Late
variable (c : Dev nD)
    (M7 : Memref sig .tc .vmem S3x8x640 .f32) (h7 : M7.IsWhole) (M8 : Memref sig .tc .vmem S8x6144 .f32) (h8 : M8.IsWhole)
    (M9 : Memref sig .tc .vmem S3x8x640 .f32) (h9 : M9.IsWhole) (M10 : Memref sig .tc .vmem S8x6144 .f32) (h10 : M10.IsWhole)
    (f7 : BufOf F c M7) (f8 : BufOf F c M8) (f9 : BufOf F c M9) (f10 : BufOf F c M10)
    (a0 : BufOf F c A0) (a1 : BufOf F c A1) (a2 : BufOf F c A2) (a3 : BufOf F c A3) (a4 : BufOf F c A4) (a5 : BufOf F c A5) (a6 : BufOf F c A6)

/-- The counts and the weighted sums once every chunk is in. -/
def finC (c : Dev nD) (a5 : BufOf F c A5) : BufOf F c B20 := iter (cntStep c a5) k0_t1_loop.trips (k0_pay1403 k0_pay1402 : BufOf F c B20)
def finS (c : Dev nD) (a3 : BufOf F c A3) (a4 : BufOf F c A4) (a5 : BufOf F c A5) : BufOf F c B19 :=
  iter (sumStep c (ringY c a3) a4 a5) k0_t1_loop.trips (k0_pay1401 : BufOf F c B19)
/-- The counts per row, and the sums of the three bands. -/
def rowC (C : BufOf F c B20) : FVec F S8x1 .f32 := k0_pay1408 (View.readAt (Elt F) B20.view (Rect.unit (s := S8x128) ![0, 0] S8x128.size inb_S8x128_S8x128_0_0).toLoadRect C)
def rowS (S : BufOf F c B19) : FVec F S8x6144 .f32 :=
  k0_pay1409 (View.readAt (Elt F) B19.view (Rect.unit (s := S24x6144) ![0, 0] S8x6144.size inb_S24x6144_S8x6144_0_0).toLoadRect S)
    (View.readAt (Elt F) B19.view (Rect.unit (s := S24x6144) ![8, 0] S8x6144.size inb_S24x6144_S8x6144_8_0).toLoadRect S)
    (View.readAt (Elt F) B19.view (Rect.unit (s := S24x6144) ![16, 0] S8x6144.size inb_S24x6144_S8x6144_16_0).toLoadRect S)

/-- The two late outputs from the accumulators. -/
def eOf (c : Dev nD) (x : BufOf F c B19 × BufOf F c B20) (v : Vec F S8x6144 .f32) : FVec F S8x6144 .f32 :=
  k0_pay2 (rowC c x.2) (rowS c x.1) (Scalar.ofBits .f32 0x3F800000#32) v
def yOf (c : Dev nD) (x : BufOf F c B19 × BufOf F c B20) : FVec F S8x6144 .f32 :=
  k0_pay1 (rowC c x.2) (rowS c x.1) (Scalar.ofBits .f32 0x3F800000#32)

attribute [local irreducible] tripOut

theorem late_eq : (bodyRun c M7 h7 M8 h8 M9 h9 M10 h10 f7 f8 f9 f10 a0 a1 a2 a3 a4 a5 a6).1
    = (M8.view.writes (Elt F) f8 [⟨Rect.unit (s := S8x6144) ![0, 0] S8x6144.size inb_S8x6144_S8x6144_0_0,
          k0_pay2 (rowC c (after c M7 h7 M8 h8 M9 h9 M10 h10 a1 a3 a0 a2 a4 a5 (k0_pay1404 a6) k0_t1_loop.trips (f7, f9, k0_pay1401, k0_pay1403 k0_pay1402)).2.2.2)
            (rowS c (after c M7 h7 M8 h8 M9 h9 M10 h10 a1 a3 a0 a2 a4 a5 (k0_pay1404 a6) k0_t1_loop.trips (f7, f9, k0_pay1401, k0_pay1403 k0_pay1402)).2.2.1)
            (Scalar.ofBits .f32 0x3F800000#32) (View.readAt (Elt F) B17.view (Rect.unit (s := S8x6144) ![0, 0] S8x6144.size inb_S8x6144_S8x6144_0_0).toLoadRect a6)⟩],
      M10.view.writes (Elt F) f10 [⟨Rect.unit (s := S8x6144) ![0, 0] S8x6144.size inb_S8x6144_S8x6144_0_0,
          k0_pay1 (rowC c (after c M7 h7 M8 h8 M9 h9 M10 h10 a1 a3 a0 a2 a4 a5 (k0_pay1404 a6) k0_t1_loop.trips (f7, f9, k0_pay1401, k0_pay1403 k0_pay1402)).2.2.2)
            (rowS c (after c M7 h7 M8 h8 M9 h9 M10 h10 a1 a3 a0 a2 a4 a5 (k0_pay1404 a6) k0_t1_loop.trips (f7, f9, k0_pay1401, k0_pay1403 k0_pay1402)).2.2.1)
            (Scalar.ofBits .f32 0x3F800000#32)⟩]) := by
  rfl

theorem after_fin : (after c M7 h7 M8 h8 M9 h9 M10 h10 a1 a3 a0 a2 a4 a5 (k0_pay1404 a6) k0_t1_loop.trips (f7, f9, k0_pay1401, k0_pay1403 k0_pay1402)).2.2
    = (finS c a3 a4 a5, finC c a5) :=
  after_sums c M7 h7 M8 h8 M9 h9 M10 h10 a1 a3 a0 a2 a4 a5 (k0_pay1404 a6) k0_t1_loop.trips le_rfl (f7, f9, k0_pay1401, k0_pay1403 k0_pay1402)

theorem late_eq' : (bodyRun c M7 h7 M8 h8 M9 h9 M10 h10 f7 f8 f9 f10 a0 a1 a2 a3 a4 a5 a6).1
    = (M8.view.writes (Elt F) f8 [⟨Rect.unit (s := S8x6144) ![0, 0] S8x6144.size inb_S8x6144_S8x6144_0_0,
          eOf c (after c M7 h7 M8 h8 M9 h9 M10 h10 a1 a3 a0 a2 a4 a5 (k0_pay1404 a6) k0_t1_loop.trips (f7, f9, k0_pay1401, k0_pay1403 k0_pay1402)).2.2
            (View.readAt (Elt F) B17.view (Rect.unit (s := S8x6144) ![0, 0] S8x6144.size inb_S8x6144_S8x6144_0_0).toLoadRect a6)⟩],
      M10.view.writes (Elt F) f10 [⟨Rect.unit (s := S8x6144) ![0, 0] S8x6144.size inb_S8x6144_S8x6144_0_0,
          yOf c (after c M7 h7 M8 h8 M9 h9 M10 h10 a1 a3 a0 a2 a4 a5 (k0_pay1404 a6) k0_t1_loop.trips (f7, f9, k0_pay1401, k0_pay1403 k0_pay1402)).2.2⟩]) := by
  unfold eOf yOf
  exact late_eq c M7 h7 M8 h8 M9 h9 M10 h10 f7 f8 f9 f10 a0 a1 a2 a3 a4 a5 a6

/-- What the two late outputs hold. -/
def lateE (c : Dev nD) (a3 : BufOf F c A3) (a4 : BufOf F c A4) (a5 : BufOf F c A5) (a6 : BufOf F c A6) : FVec F S8x6144 .f32 :=
  eOf c (finS c a3 a4 a5, finC c a5) a6
def lateY (c : Dev nD) (a3 : BufOf F c A3) (a4 : BufOf F c A4) (a5 : BufOf F c A5) : FVec F S8x6144 .f32 :=
  yOf c (finS c a3 a4 a5, finC c a5)

attribute [local irreducible] eOf yOf bodyRun iter finS finC

theorem read_full8V {sp : Space} (v : View sig .tc sp S8x6144 .f32) (f : v.ty.Contents (Elt F)) (p : S8x6144.Idx → Elt F .f32) :
    v.read (Elt F) (v.writes (Elt F) f [⟨Rect.unit (s := S8x6144) ![0, 0] S8x6144.size inb_S8x6144_S8x6144_0_0, p⟩]) = p := by
  exact View.read_writes_full v f inb_S8x6144_S8x6144_0_0 p []
theorem read_full8 (c : Dev nD) (M8 : Memref sig .tc .vmem S8x6144 .f32) (f : BufOf F c M8) (p : FVec F S8x6144 .f32) :
    M8.view.read (Elt F) (M8.view.writes (Elt F) f [⟨Rect.unit (s := S8x6144) ![0, 0] S8x6144.size inb_S8x6144_S8x6144_0_0, p⟩]) = p :=
  read_full8V M8.view f p

theorem readE (w : BufOf F c M8 × BufOf F c M10) (x : BufOf F c B19 × BufOf F c B20) (hx : x = (finS c a3 a4 a5, finC c a5))
    (v : Vec F S8x6144 .f32) (hv : v = a6) (r : BufOf F c M10)
    (h : w = (M8.view.writes (Elt F) f8 [⟨Rect.unit (s := S8x6144) ![0, 0] S8x6144.size inb_S8x6144_S8x6144_0_0, eOf c x v⟩], r)) :
    M8.view.read (Elt F) w.1 = lateE c a3 a4 a5 a6 := by
  rw [h, hx, hv]
  dsimp only
  unfold lateE
  exact read_full8 c M8 f8 _
theorem readY (w : BufOf F c M8 × BufOf F c M10) (x : BufOf F c B19 × BufOf F c B20) (hx : x = (finS c a3 a4 a5, finC c a5))
    (r : BufOf F c M8)
    (h : w = (r, M10.view.writes (Elt F) f10 [⟨Rect.unit (s := S8x6144) ![0, 0] S8x6144.size inb_S8x6144_S8x6144_0_0, yOf c x⟩])) :
    M10.view.read (Elt F) w.2 = lateY c a3 a4 a5 := by
  rw [h, hx]
  dsimp only
  unfold lateY
  exact read_full8 c M10 f10 _

theorem read_late8 : M8.view.read (Elt F) (bodyRun c M7 h7 M8 h8 M9 h9 M10 h10 f7 f8 f9 f10 a0 a1 a2 a3 a4 a5 a6).1.1 = lateE c a3 a4 a5 a6 :=
  readE c M8 M10 f8 a3 a4 a5 a6 _ _ (after_fin c M7 h7 M8 h8 M9 h9 M10 h10 f7 f9 a0 a1 a2 a3 a4 a5 a6) _ (View.readAt_full B17.view a6 inb_S8x6144_S8x6144_0_0) _
    (late_eq' c M7 h7 M8 h8 M9 h9 M10 h10 f7 f8 f9 f10 a0 a1 a2 a3 a4 a5 a6)
theorem read_late10 : M10.view.read (Elt F) (bodyRun c M7 h7 M8 h8 M9 h9 M10 h10 f7 f8 f9 f10 a0 a1 a2 a3 a4 a5 a6).1.2 = lateY c a3 a4 a5 :=
  readY c M8 M10 f10 a3 a4 a5 _ _ (after_fin c M7 h7 M8 h8 M9 h9 M10 h10 f7 f9 a0 a1 a2 a3 a4 a5 a6) _
    (late_eq' c M7 h7 M8 h8 M9 h9 M10 h10 f7 f8 f9 f10 a0 a1 a2 a3 a4 a5 a6)
end Late

end Cert.KernelIdeal.Hand
end
-- ==== Proof.KIBlocks.lean ====
module

public import proofs.«01_k».proof.Proof.KIStep
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

set_option maxRecDepth 100000

/-! ## Each buffer the transfers touch, split into its fifteen chunks -/

theorem set_sG (k : Fin k0_t1_loop.trips) : (sG k).view.set = (Rect.unit (s := S15x128x6144) (k0_off2 k) S1x128x6144.size (k0_off2_inb k)).set :=
  (View.set_reshape _ _).trans (View.set_slice_whole _ _)
theorem set_hG (k : Fin k0_t1_loop.trips) : (hG k).view.set = (Rect.unit (s := S3x640x6144) (k0_off3 k) S1x128x6144.size (k0_off3_inb k)).set :=
  (View.set_reshape _ _).trans (View.set_slice_whole _ _)
theorem set_sY (k : Fin k0_t1_loop.trips) : (sY k).view.set = (Rect.unit (s := S15x2x128x6144) (k0_off4 k) S1x2x128x6144.size (k0_off4_inb k)).set :=
  (View.set_reshape _ _).trans (View.set_slice_whole _ _)
theorem set_hY (k : Fin k0_t1_loop.trips) : (hY k).view.set = (Rect.unit (s := S3x2x640x6144) (k0_off5 k) S1x2x128x6144.size (k0_off5_inb k)).set :=
  (View.set_reshape _ _).trans (View.set_slice_whole _ _)

theorem trips_eq : k0_t1_loop.trips = 15 := by decide

theorem slotsG_disj (k k' : Fin k0_t1_loop.trips) (h : k ≠ k') : Disjoint (Rect.unit (s := S15x128x6144) (k0_off2 k) S1x128x6144.size (k0_off2_inb k)).set (Rect.unit (s := S15x128x6144) (k0_off2 k') S1x128x6144.size (k0_off2_inb k')).set := by
  rw [Finset.disjoint_left]
  intro i hi hi'
  have a0 := (Rect.mem_set_unit.mp hi) 0
  have b0 := (Rect.mem_set_unit.mp hi') 0
  rw [k0_off2_eq] at a0 b0
  change k.val ≤ (i 0).val ∧ (i 0).val < k.val + 1 at a0
  change k'.val ≤ (i 0).val ∧ (i 0).val < k'.val + 1 at b0
  exact h (Fin.ext (by omega))
theorem slotsG_cover : (Finset.univ : Finset (Fin k0_t1_loop.trips)).biUnion (fun k => (Rect.unit (s := S15x128x6144) (k0_off2 k) S1x128x6144.size (k0_off2_inb k)).set) = Finset.univ := by
  ext i
  simp only [Finset.mem_biUnion, Finset.mem_univ, true_and, iff_true]
  have h0 : (i 0).val < 15 := (i 0).isLt
  have h1 : (i 1).val < 128 := (i 1).isLt
  have h2 : (i 2).val < 6144 := (i 2).isLt
  obtain ⟨k, hk⟩ : ∃ k : Fin k0_t1_loop.trips, k.val = (i 0).val := ⟨⟨(i 0).val, by rw [trips_eq]; omega⟩, rfl⟩
  refine ⟨k, Rect.mem_set_unit.mpr fun a => ?_⟩
  rw [k0_off2_eq]
  match a with
  | ⟨0, _⟩ =>
    show k.val ≤ (i 0).val ∧ (i 0).val < k.val + 1
    omega
  | ⟨1, _⟩ =>
    show 0 ≤ (i 1).val ∧ (i 1).val < 0 + 128
    omega
  | ⟨2, _⟩ =>
    show 0 ≤ (i 2).val ∧ (i 2).val < 0 + 6144
    omega
/-- The gradient ring is its fifteen slots. -/
theorem slotsG (c : Dev nD) (f : BufOf F c B12) : (pt c B12 f : sProp 𝕄) = bigSep Finset.univ fun k => heldG c k f := by
  refine Ring.pointsTo_blocks (ℓ := B12.view.loc (c : Thread nD τ)) (B := Fin k0_t1_loop.trips) (fun k => (sG k).view.set) (fun k k' h => ?_) ?_ f
  · rw [set_sG, set_sG]; exact slotsG_disj k k' h
  · rw [show (fun k => (sG k).view.set) = fun k => (Rect.unit (s := S15x128x6144) (k0_off2 k) S1x128x6144.size (k0_off2_inb k)).set from funext set_sG]; exact slotsG_cover

theorem slotsY_disj (k k' : Fin k0_t1_loop.trips) (h : k ≠ k') : Disjoint (Rect.unit (s := S15x2x128x6144) (k0_off4 k) S1x2x128x6144.size (k0_off4_inb k)).set (Rect.unit (s := S15x2x128x6144) (k0_off4 k') S1x2x128x6144.size (k0_off4_inb k')).set := by
  rw [Finset.disjoint_left]
  intro i hi hi'
  have a0 := (Rect.mem_set_unit.mp hi) 0
  have b0 := (Rect.mem_set_unit.mp hi') 0
  rw [k0_off4_eq] at a0 b0
  change k.val ≤ (i 0).val ∧ (i 0).val < k.val + 1 at a0
  change k'.val ≤ (i 0).val ∧ (i 0).val < k'.val + 1 at b0
  exact h (Fin.ext (by omega))
theorem slotsY_cover : (Finset.univ : Finset (Fin k0_t1_loop.trips)).biUnion (fun k => (Rect.unit (s := S15x2x128x6144) (k0_off4 k) S1x2x128x6144.size (k0_off4_inb k)).set) = Finset.univ := by
  ext i
  simp only [Finset.mem_biUnion, Finset.mem_univ, true_and, iff_true]
  have h0 : (i 0).val < 15 := (i 0).isLt
  have h1 : (i 1).val < 2 := (i 1).isLt
  have h2 : (i 2).val < 128 := (i 2).isLt
  have h3 : (i 3).val < 6144 := (i 3).isLt
  obtain ⟨k, hk⟩ : ∃ k : Fin k0_t1_loop.trips, k.val = (i 0).val := ⟨⟨(i 0).val, by rw [trips_eq]; omega⟩, rfl⟩
  refine ⟨k, Rect.mem_set_unit.mpr fun a => ?_⟩
  rw [k0_off4_eq]
  match a with
  | ⟨0, _⟩ =>
    show k.val ≤ (i 0).val ∧ (i 0).val < k.val + 1
    omega
  | ⟨1, _⟩ =>
    show 0 ≤ (i 1).val ∧ (i 1).val < 0 + 2
    omega
  | ⟨2, _⟩ =>
    show 0 ≤ (i 2).val ∧ (i 2).val < 0 + 128
    omega
  | ⟨3, _⟩ =>
    show 0 ≤ (i 3).val ∧ (i 3).val < 0 + 6144
    omega
/-- The activation ring is its fifteen slots. -/
theorem slotsY (c : Dev nD) (f : BufOf F c B14) : (pt c B14 f : sProp 𝕄) = bigSep Finset.univ fun k => heldY c k f := by
  refine Ring.pointsTo_blocks (ℓ := B14.view.loc (c : Thread nD τ)) (B := Fin k0_t1_loop.trips) (fun k => (sY k).view.set) (fun k k' h => ?_) ?_ f
  · rw [set_sY, set_sY]; exact slotsY_disj k k' h
  · rw [show (fun k => (sY k).view.set) = fun k => (Rect.unit (s := S15x2x128x6144) (k0_off4 k) S1x2x128x6144.size (k0_off4_inb k)).set from funext set_sY]; exact slotsY_cover

theorem homesG_disj (k k' : Fin k0_t1_loop.trips) (h : k ≠ k') : Disjoint (Rect.unit (s := S3x640x6144) (k0_off3 k) S1x128x6144.size (k0_off3_inb k)).set (Rect.unit (s := S3x640x6144) (k0_off3 k') S1x128x6144.size (k0_off3_inb k')).set := by
  rw [Finset.disjoint_left]
  intro i hi hi'
  have a0 := (Rect.mem_set_unit.mp hi) 0
  have b0 := (Rect.mem_set_unit.mp hi') 0
  have a1 := (Rect.mem_set_unit.mp hi) 1
  have b1 := (Rect.mem_set_unit.mp hi') 1
  rw [k0_off3_eq] at a0 b0 a1 b1
  change k.val / 5 ≤ (i 0).val ∧ (i 0).val < k.val / 5 + 1 at a0
  change k'.val / 5 ≤ (i 0).val ∧ (i 0).val < k'.val / 5 + 1 at b0
  change 128 * (k.val % 5) ≤ (i 1).val ∧ (i 1).val < 128 * (k.val % 5) + 128 at a1
  change 128 * (k'.val % 5) ≤ (i 1).val ∧ (i 1).val < 128 * (k'.val % 5) + 128 at b1
  exact h (Fin.ext (by omega))
theorem homesG_cover : (Finset.univ : Finset (Fin k0_t1_loop.trips)).biUnion (fun k => (Rect.unit (s := S3x640x6144) (k0_off3 k) S1x128x6144.size (k0_off3_inb k)).set) = Finset.univ := by
  ext i
  simp only [Finset.mem_biUnion, Finset.mem_univ, true_and, iff_true]
  have h0 : (i 0).val < 3 := (i 0).isLt
  have h1 : (i 1).val < 640 := (i 1).isLt
  have h2 : (i 2).val < 6144 := (i 2).isLt
  obtain ⟨k, hk⟩ : ∃ k : Fin k0_t1_loop.trips, k.val = 5 * (i 0).val + (i 1).val / 128 := ⟨⟨5 * (i 0).val + (i 1).val / 128, by rw [trips_eq]; omega⟩, rfl⟩
  refine ⟨k, Rect.mem_set_unit.mpr fun a => ?_⟩
  rw [k0_off3_eq]
  match a with
  | ⟨0, _⟩ =>
    show k.val / 5 ≤ (i 0).val ∧ (i 0).val < k.val / 5 + 1
    omega
  | ⟨1, _⟩ =>
    show 128 * (k.val % 5) ≤ (i 1).val ∧ (i 1).val < 128 * (k.val % 5) + 128
    omega
  | ⟨2, _⟩ =>
    show 0 ≤ (i 2).val ∧ (i 2).val < 0 + 6144
    omega
/-- The gradient argument is its fifteen chunks: batch `k / 5`, rows `128 (k % 5) …`. -/
theorem homesG (c : Dev nD) (f : BufOf F c A1) : (pt c A1 f : sProp 𝕄) = bigSep Finset.univ fun k => homeG c k f := by
  refine Ring.pointsTo_blocks (ℓ := A1.view.loc (c : Thread nD τ)) (B := Fin k0_t1_loop.trips) (fun k => (hG k).view.set) (fun k k' h => ?_) ?_ f
  · rw [set_hG, set_hG]; exact homesG_disj k k' h
  · rw [show (fun k => (hG k).view.set) = fun k => (Rect.unit (s := S3x640x6144) (k0_off3 k) S1x128x6144.size (k0_off3_inb k)).set from funext set_hG]; exact homesG_cover

theorem homesY_disj (k k' : Fin k0_t1_loop.trips) (h : k ≠ k') : Disjoint (Rect.unit (s := S3x2x640x6144) (k0_off5 k) S1x2x128x6144.size (k0_off5_inb k)).set (Rect.unit (s := S3x2x640x6144) (k0_off5 k') S1x2x128x6144.size (k0_off5_inb k')).set := by
  rw [Finset.disjoint_left]
  intro i hi hi'
  have a0 := (Rect.mem_set_unit.mp hi) 0
  have b0 := (Rect.mem_set_unit.mp hi') 0
  have a2 := (Rect.mem_set_unit.mp hi) 2
  have b2 := (Rect.mem_set_unit.mp hi') 2
  rw [k0_off5_eq] at a0 b0 a2 b2
  change k.val / 5 ≤ (i 0).val ∧ (i 0).val < k.val / 5 + 1 at a0
  change k'.val / 5 ≤ (i 0).val ∧ (i 0).val < k'.val / 5 + 1 at b0
  change 128 * (k.val % 5) ≤ (i 2).val ∧ (i 2).val < 128 * (k.val % 5) + 128 at a2
  change 128 * (k'.val % 5) ≤ (i 2).val ∧ (i 2).val < 128 * (k'.val % 5) + 128 at b2
  exact h (Fin.ext (by omega))
theorem homesY_cover : (Finset.univ : Finset (Fin k0_t1_loop.trips)).biUnion (fun k => (Rect.unit (s := S3x2x640x6144) (k0_off5 k) S1x2x128x6144.size (k0_off5_inb k)).set) = Finset.univ := by
  ext i
  simp only [Finset.mem_biUnion, Finset.mem_univ, true_and, iff_true]
  have h0 : (i 0).val < 3 := (i 0).isLt
  have h1 : (i 1).val < 2 := (i 1).isLt
  have h2 : (i 2).val < 640 := (i 2).isLt
  have h3 : (i 3).val < 6144 := (i 3).isLt
  obtain ⟨k, hk⟩ : ∃ k : Fin k0_t1_loop.trips, k.val = 5 * (i 0).val + (i 2).val / 128 := ⟨⟨5 * (i 0).val + (i 2).val / 128, by rw [trips_eq]; omega⟩, rfl⟩
  refine ⟨k, Rect.mem_set_unit.mpr fun a => ?_⟩
  rw [k0_off5_eq]
  match a with
  | ⟨0, _⟩ =>
    show k.val / 5 ≤ (i 0).val ∧ (i 0).val < k.val / 5 + 1
    omega
  | ⟨1, _⟩ =>
    show 0 ≤ (i 1).val ∧ (i 1).val < 0 + 2
    omega
  | ⟨2, _⟩ =>
    show 128 * (k.val % 5) ≤ (i 2).val ∧ (i 2).val < 128 * (k.val % 5) + 128
    omega
  | ⟨3, _⟩ =>
    show 0 ≤ (i 3).val ∧ (i 3).val < 0 + 6144
    omega
/-- The activations are their fifteen chunks. -/
theorem homesY (c : Dev nD) (f : BufOf F c A3) : (pt c A3 f : sProp 𝕄) = bigSep Finset.univ fun k => homeY c k f := by
  refine Ring.pointsTo_blocks (ℓ := A3.view.loc (c : Thread nD τ)) (B := Fin k0_t1_loop.trips) (fun k => (hY k).view.set) (fun k k' h => ?_) ?_ f
  · rw [set_hY, set_hY]; exact homesY_disj k k' h
  · rw [show (fun k => (hY k).view.set) = fun k => (Rect.unit (s := S3x2x640x6144) (k0_off5 k) S1x2x128x6144.size (k0_off5_inb k)).set from funext set_hY]; exact homesY_cover

/-- What the gradient transfers hand back: their fifteen counters at zero, the ring, the argument. -/
theorem backG_all (c : Dev nD) (a1 : BufOf F c A1) :
    backG c a1 ⊢ (iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
      ∗ (∃ f, pt c B12 f) ∗ pt c A1 a1) : sProp 𝕄) := by
  unfold backG
  rw [bigSep_chunks (fun k => semVal ((c : Thread nD τ), cG k) 0), ← slotsG, ← homesG]
  iintro ⟨⟨H0, H1, H2, H3, H4, H5, H6, H7, H8, H9, H10, H11, H12, H13, H14⟩, HB, HA⟩
  isplitr [HB HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HB]
  · iexists _; iexact HB
  iexact HA

/-- What the activation transfers hand back: their fifteen counters at zero, the ring, the argument. -/
theorem backY_all (c : Dev nD) (a3 : BufOf F c A3) :
    backY c a3 ⊢ (iprop((semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
      ∗ (∃ f, pt c B14 f) ∗ pt c A3 a3) : sProp 𝕄) := by
  unfold backY
  rw [bigSep_chunks (fun k => semVal ((c : Thread nD τ), cY k) 0), ← slotsY, ← homesY]
  iintro ⟨⟨H0, H1, H2, H3, H4, H5, H6, H7, H8, H9, H10, H11, H12, H13, H14⟩, HB, HA⟩
  isplitr [HB HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HB]
  · iexists _; iexact HB
  iexact HA

end Cert.KernelIdeal.Hand
end
-- ==== Proof.KIFrame.lean ====
module

public import proofs.«01_k».proof.Proof.KIBlocks
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat BodyObligation)

set_option maxRecDepth 100000

variable (m : (ℓ : Loc nD τ sig) → Buf (Elt F) ℓ) (ρ : Dev nD → PrngReg)

/-! ## The body's own counters and the arguments it moves itself -/

/-- The body's counters: five for the small arguments, fifteen for each ring. -/
abbrev osem0 : Fin 35 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 35 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]; rfl
/-- The arguments left in HBM. -/
def H0 : Finset (Ref sig .tc) := {main_v0, main_arg1, main_arg2, main_v1, main_v2, main_v3, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c A0 (V m c main_v0) ∗ pt c A1 (V m c main_arg1) ∗ pt c A2 (V m c main_arg2) ∗ pt c A3 (V m c main_v1) ∗ pt c A4 (V m c main_v2) ∗ pt c A5 (V m c main_v3) ∗ pt c A6 (V m c main_arg6)) := by
  rw [BI.bigSep_eq_bigSepL_of_eq [main_v0, main_arg1, main_arg2, main_v1, main_v2, main_v3, main_arg6] (by decide) (by decide)]; rfl
/-- What the region is entered and left with. -/
theorem PhiD0_eq (c : Dev nD) :
    (Pipeline.ΦD osem0 spec0 H0 (V m) c : sProp 𝕄)
      = iprop(((∃ f, pt c B11 f) ∗ (∃ f, pt c B12 f) ∗ (∃ f, pt c B13 f) ∗ (∃ f, pt c B14 f) ∗ (∃ f, pt c B15 f) ∗ (∃ f, pt c B16 f) ∗ (∃ f, pt c B17 f) ∗ (∃ f, pt c B18 f) ∗ (∃ f, pt c B19 f) ∗ (∃ f, pt c B20 f))
        ∗ (∃ r, prngReg c r)
        ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
        ∗ (pt c A0 (V m c main_v0) ∗ pt c A1 (V m c main_arg1) ∗ pt c A2 (V m c main_arg2) ∗ pt c A3 (V m c main_v1) ∗ pt c A4 (V m c main_v2) ∗ pt c A5 (V m c main_v3) ∗ pt c A6 (V m c main_arg6))) := by
  rw [Pipeline.ΦD_eq, scopedRest0_eq, ownSems00_eq, hbmPts0_eq]

/-! ## The region's data: what each result holds after the body -/

abbrev ms0_0 (t : Fin cfg0.N) : Memref sig .tc .vmem S3x8x640 .f32 := win0_0.stage (cfg0.slots t 0)
abbrev ms0_1 (t : Fin cfg0.N) : Memref sig .tc .vmem S8x6144 .f32 := win0_1.stage (cfg0.slots t 1)
abbrev ms0_2 (t : Fin cfg0.N) : Memref sig .tc .vmem S3x8x640 .f32 := win0_2.stage (cfg0.slots t 2)
abbrev ms0_3 (t : Fin cfg0.N) : Memref sig .tc .vmem S8x6144 .f32 := win0_3.stage (cfg0.slots t 3)

/-- The softmax gradient's rows, the moving average, the router gradient's rows, the mean. -/
def res0 (c : Dev nD) : FVec F S3x8x640 .f32 :=
  rows (fun k => payS c (V m c main_v0) (ringG c (V m c main_arg1)) (V m c main_arg2) (ringY c (V m c main_v1)) (V m c main_v2) (V m c main_v3) (k0_pay1404 (V m c main_arg6)) k)
def res1 (c : Dev nD) : FVec F S8x6144 .f32 := lateE c (V m c main_v1) (V m c main_v2) (V m c main_v3) (V m c main_arg6)
def res2 (c : Dev nD) : FVec F S3x8x640 .f32 :=
  rows (fun k => payD c (ringG c (V m c main_arg1)) (V m c main_arg2) (ringY c (V m c main_v1)) (V m c main_v2) (V m c main_v3) (k0_pay1404 (V m c main_arg6)) k)
def res3 (c : Dev nD) : FVec F S8x6144 .f32 := lateY c (V m c main_v1) (V m c main_v2) (V m c main_v3)

def dats (_ : Fin 1) (c : Dev nD) : Dat τ (Elt F) Unit ℕ (Pipeline.UD sig nD τ) ℕ cfg0 c where
  A w := V m c (Pipeline.arrRef spec0 w)
  after w t := match w with
    | ⟨0, _⟩ => res0 m c
    | ⟨1, _⟩ => res1 m c
    | ⟨2, _⟩ => res2 m c
    | ⟨3, _⟩ => res3 m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = res0 m c := by dsimp only [dats]
theorem after0_1 (c : Dev nD) (t : Fin cfg0.N) : (dats m 0 c).after 1 t = res1 m c := by dsimp only [dats]
theorem after0_2 (c : Dev nD) (t : Fin cfg0.N) : (dats m 0 c).after 2 t = res2 m c := by dsimp only [dats]
theorem after0_3 (c : Dev nD) (t : Fin cfg0.N) : (dats m 0 c).after 3 t = res3 m c := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem res0_def (c : Dev nD) : res0 m c =
    rows (fun k => payS c (V m c main_v0) (ringG c (V m c main_arg1)) (V m c main_arg2) (ringY c (V m c main_v1)) (V m c main_v2) (V m c main_v3) (k0_pay1404 (V m c main_arg6)) k) := rfl
theorem res1_def (c : Dev nD) : res1 m c = lateE c (V m c main_v1) (V m c main_v2) (V m c main_v3) (V m c main_arg6) := rfl
theorem res2_def (c : Dev nD) : res2 m c =
    rows (fun k => payD c (ringG c (V m c main_arg1)) (V m c main_arg2) (ringY c (V m c main_v1)) (V m c main_v2) (V m c main_v3) (k0_pay1404 (V m c main_arg6)) k) := rfl
theorem res3_def (c : Dev nD) : res3 m c = lateY c (V m c main_v1) (V m c main_v2) (V m c main_v3) := rfl

/-- A whole memref owned at some contents is its buffer held. -/
theorem pt_of_owns (c : Dev nD) {sp : Space} {S : Shape} {e : EltTy} (M : Memref sig .tc sp S e) (h : M.IsWhole) (X : S.Idx → Elt F e) :
    owns (c : Thread nD τ) M fullShare X ⊢ (iprop(∃ f, pt c M f) : sProp 𝕄) := by
  unfold owns; rw [h.set_eq_univ]
  iintro ⟨%f, -, H⟩; iexists f; iexact H
theorem owns_of_pt (c : Dev nD) {sp : Space} {S : Shape} {e : EltTy} (M : Memref sig .tc sp S e) (h : M.IsWhole) (f : BufOf F c M) (X : S.Idx → Elt F e)
    (hf : M.view.read (Elt F) f = X) : (pt c M f : sProp 𝕄) ⊢ owns (c : Thread nD τ) M fullShare X := by
  unfold owns; rw [h.set_eq_univ]
  iintro H; iexists f; isplitr
  · ipureintro; exact hf
  iexact H

attribute [local irreducible] res0 res1 res2 res3 bodyRun rows payS payD lateE lateY

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩, Hg, Hq, ⟨HA0, HA1, HA2, HA3, HA4, HA5, HA6⟩⟩, ⟨%W, -, HW⟩, ⟨%d7, H7⟩, ⟨%d8, H8⟩, ⟨%d9, H9⟩, ⟨%d10, H10⟩⟩
  ihave H7' := (pt_of_owns c (ms0_0 t) (hstage0_0 0) _) $$ [H7]
  · iexact H7
  icases H7' with ⟨%f7, H7⟩
  ihave H8' := (pt_of_owns c (ms0_1 t) (hstage0_1 0) _) $$ [H8]
  · iexact H8
  icases H8' with ⟨%f8, H8⟩
  ihave H9' := (pt_of_owns c (ms0_2 t) (hstage0_2 0) _) $$ [H9]
  · iexact H9
  icases H9' with ⟨%f9, H9⟩
  ihave H10' := (pt_of_owns c (ms0_3 t) (hstage0_3 0) _) $$ [H10]
  · iexact H10
  icases H10' with ⟨%f10, H10⟩
  have r7 := (read_after7 c (ms0_0 t) (hstage0_0 0) (ms0_1 t) (hstage0_1 0) (ms0_2 t) (hstage0_2 0) (ms0_3 t) (hstage0_3 0) (V m c main_arg1) (V m c main_v1) (V m c main_v0) (V m c main_arg2) (V m c main_v2) (V m c main_v3) (k0_pay1404 (V m c main_arg6)) (f7, f9, k0_pay1401, k0_pay1403 k0_pay1402)).trans (res0_def m c).symm
  have r8 := (read_late8 c (ms0_0 t) (hstage0_0 0) (ms0_1 t) (hstage0_1 0) (ms0_2 t) (hstage0_2 0) (ms0_3 t) (hstage0_3 0) f7 f8 f9 f10 (V m c main_v0) (V m c main_arg1) (V m c main_arg2) (V m c main_v1) (V m c main_v2) (V m c main_v3) (V m c main_arg6)).trans (res1_def m c).symm
  have r9 := (read_after9 c (ms0_0 t) (hstage0_0 0) (ms0_1 t) (hstage0_1 0) (ms0_2 t) (hstage0_2 0) (ms0_3 t) (hstage0_3 0) (V m c main_arg1) (V m c main_v1) (V m c main_v0) (V m c main_arg2) (V m c main_v2) (V m c main_v3) (k0_pay1404 (V m c main_arg6)) (f7, f9, k0_pay1401, k0_pay1403 k0_pay1402)).trans (res2_def m c).symm
  have r10 := (read_late10 c (ms0_0 t) (hstage0_0 0) (ms0_1 t) (hstage0_1 0) (ms0_2 t) (hstage0_2 0) (ms0_3 t) (hstage0_3 0) f7 f8 f9 f10 (V m c main_v0) (V m c main_arg1) (V m c main_arg2) (V m c main_v1) (V m c main_v2) (V m c main_v3) (V m c main_arg6)).trans (res3_def m c).symm
  iapply ((bodyRun c (ms0_0 t) (hstage0_0 0) (ms0_1 t) (hstage0_1 0) (ms0_2 t) (hstage0_2 0) (ms0_3 t) (hstage0_3 0) f7 f8 f9 f10
    (V m c main_v0) (V m c main_arg1) (V m c main_arg2) (V m c main_v1) (V m c main_v2) (V m c main_v3) (V m c main_arg6)).2
    Variants.none W f11 f12 f13 f14 f15 f16 f17 f18 f19 f20 _)
  isplitl [HA0]; · iexact HA0
  isplitl [HA2]; · iexact HA2
  isplitl [HA4]; · iexact HA4
  isplitl [HA5]; · iexact HA5
  isplitl [HA6]; · iexact HA6
  isplitl [H7]; · iexact H7
  isplitl [H8]; · iexact H8
  isplitl [H9]; · iexact H9
  isplitl [H10]; · iexact H10
  isplitl [H11]; · iexact H11
  isplitl [H13]; · iexact H13
  isplitl [H15]; · iexact H15
  isplitl [H16]; · iexact H16
  isplitl [H17]; · iexact H17
  isplitl [H18]; · iexact H18
  isplitl [H19]; · iexact H19
  isplitl [H20]; · iexact H20
  isplitl [Hq]; · iexact Hq
  isplitl [H12]; · rw [← slotsG]; iexact H12
  isplitl [H14]; · rw [← slotsY]; iexact H14
  isplitl [HA1]; · rw [← homesG]; iexact HA1
  isplitl [HA3]; · rw [← homesY]; iexact HA3
  isplitl [HW]; · iexact HW
  iintro ⟨HA0, HA2, HA4, HA5, HA6, H7, H8, H9, H10, H11, H13, H15, H16, H17, H18, H19, H20, ⟨Hq4, Hq5, Hq6, Hq7, Hq8⟩, HG, HY, ⟨%W', HW'⟩⟩
  ihave HG' := (backG_all c _) $$ [HG]
  · iexact HG
  ihave HY' := (backY_all c _) $$ [HY]
  · iexact HY
  icases HG' with ⟨⟨Hq9, Hq10, Hq11, Hq12, Hq13, Hq14, Hq15, Hq16, Hq17, Hq18, Hq19, Hq20, Hq21, Hq22, Hq23⟩, H12, HA1⟩
  icases HY' with ⟨⟨Hq24, Hq25, Hq26, Hq27, Hq28, Hq29, Hq30, Hq31, Hq32, Hq33, Hq34, Hq35, Hq36, Hq37, Hq38⟩, H14, HA3⟩
  isplitl [H11 H12 H13 H14 H15 H16 H17 H18 H19 H20 Hg Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 HA0 HA1 HA2 HA3 HA4 HA5 HA6]
  · isplitl [H11 H12 H13 H14 H15 H16 H17 H18 H19 H20]
    · isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    isplitl [Hg]; · iexact Hg
    isplitl [Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    isplitl [HA0]; · iexact HA0
    isplitl [HA1]; · iexact HA1
    isplitl [HA2]; · iexact HA2
    isplitl [HA3]; · iexact HA3
    isplitl [HA4]; · iexact HA4
    isplitl [HA5]; · iexact HA5
    iexact HA6
  isplitl [HW']
  · iexists W'; isplitr; · ipureintro; exact fun _ _ => Or.inl trivial
    iexact HW'
  isplitl [H7]
  · iapply (owns_of_pt c (ms0_0 t) (hstage0_0 0) _ _ r7)
    iexact H7
  isplitl [H8]
  · iapply (owns_of_pt c (ms0_1 t) (hstage0_1 0) _ _ r8)
    iexact H8
  isplitl [H9]
  · iapply (owns_of_pt c (ms0_2 t) (hstage0_2 0) _ _ r9)
    iexact H9
  iapply (owns_of_pt c (ms0_3 t) (hstage0_3 0) _ _ r10)
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
    (fun _ => Pipeline.chain (([hostOps1] : List (List (HloOp τ sig (Elt F)))).map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region read and write none of the arguments the body moves. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  have h₁ := (List.forall_iff_forall_mem.mp hostOps1_sub) op hop
  simp only [hostOps1, List.mem_cons, List.mem_nil_iff, or_false] at hop
  refine Pipeline.sub_tailRefsBut Pipeline.Prefetch.none spec0 H0 op h₁ (fun k => k.elim0) fun b hb => ?_
  simp only [H0, Finset.mem_insert, Finset.mem_singleton] at hb
  rcases hop with rfl | rfl <;> rcases hb with rfl | rfl | rfl | rfl | rfl | rfl | rfl <;>
    · simp only [StableHlo.unary_bufs, Finset.mem_insert, Finset.mem_singleton, not_or]
      exact ⟨StableHlo.devRef_ne_of_ne (by decide), StableHlo.devRef_ne_of_ne (by decide)⟩

/-- The run: every result array at what the body left, every other buffer as the host lines leave it, every counter at zero. -/
def RunPost (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (RunPost m) :=
  Pipeline.θ_run_frame_dma_around (Q' := RunPost m) (hQ' := fun _ h => h) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-- A buffer no later line writes and no window stages ends as the region found it. -/
theorem tail_keep (c : Dev nD) (b : Ref sig .tc) (h5 : b ≠ main_v5) (h6 : b ≠ main_v6) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne h5, StableHlo.devRef_ne_of_ne h6⟩)),
    Pipeline.withArrays_of_ne _ c (V0 m c) _ b ha]

/-- The arguments end as launched. -/
theorem args_kept (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.1 c).2 main_arg0 (Pipeline.mem_restRefs_of main_arg0 (by decide) (by decide))).trans ((tail_keep m c main_arg0 (by decide) (by decide) (by decide)).trans (V_main_arg0 m c)),
    ((h.1 c).2 main_arg1 (Pipeline.mem_restRefs_of main_arg1 (by decide) (by decide))).trans ((tail_keep m c main_arg1 (by decide) (by decide) (by decide)).trans (V_main_arg1 m c)),
    ((h.1 c).2 main_arg2 (Pipeline.mem_restRefs_of main_arg2 (by decide) (by decide))).trans ((tail_keep m c main_arg2 (by decide) (by decide) (by decide)).trans (V_main_arg2 m c)),
    ((h.1 c).2 main_arg3 (Pipeline.mem_restRefs_of main_arg3 (by decide) (by decide))).trans ((tail_keep m c main_arg3 (by decide) (by decide) (by decide)).trans (V_main_arg3 m c)),
    ((h.1 c).2 main_arg4 (Pipeline.mem_restRefs_of main_arg4 (by decide) (by decide))).trans ((tail_keep m c main_arg4 (by decide) (by decide) (by decide)).trans (V_main_arg4 m c)),
    ((h.1 c).2 main_arg5 (Pipeline.mem_restRefs_of main_arg5 (by decide) (by decide))).trans ((tail_keep m c main_arg5 (by decide) (by decide) (by decide)).trans (V_main_arg5 m c)),
    ((h.1 c).2 main_arg6 (Pipeline.mem_restRefs_of main_arg6 (by decide) (by decide))).trans ((tail_keep m c main_arg6 (by decide) (by decide) (by decide)).trans (V_main_arg6 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept m r h c, h.2⟩) (run_main m ρ)

end Cert.KernelIdeal.Hand
end
-- ==== Proof.KISums.lean ====
/- What one trip adds to the weighted sums and to the counts, read at an index, and what the fifteen trips leave: every
   accumulator entry is a sum over the chunks and the positions in a chunk. Extended reals. -/
module

public import proofs.«01_k».proof.Proof.KIStep
public import proofs.«01_k».proof.Proof.KIBlocks
public import Idealize.ShloMosaic.Lib.Pointwise

@[expose] public section

set_option maxRecDepth 100000

noncomputable section

namespace Cert.KernelIdeal.Hand

open Cert.KernelIdeal Cert.KernelIdeal.Gen
open Idealize.ShloMosaic Idealize.ShloMosaic.TcCoe

/-! ## A load of a rectangle, at an index -/

theorem readAt_at {sp : Space} {S : Shape} {e : EltTy} {Val : EltTy → Type} (v : View sig .tc sp S e) (f : v.ty.Contents Val)
    {off off' size : Fin S.rank → ℕ} (inb : ∀ a, off a + size a ≤ S.size a) (h : off = off')
    (x : (Rect.unit off size inb).toLoadRect.shape.Idx) (y : S.Idx) (hy : ∀ a, (y a).val = off' a + (x a).val) :
    v.readAt Val (Rect.unit off size inb).toLoadRect f x = v.read Val f y := by
  subst h
  have e : (Rect.unit off size inb).emb x = y := funext fun a => Fin.ext (by
    show off a + 1 * (x a).val = (y a).val
    rw [hy a, Nat.one_mul])
  rw [← e]; rfl

/-! ## A number added trip by trip -/

theorem iter_add {α : Type} (s : Fin k0_t1_loop.trips → α → α) (g : α → EReal) (T : Fin k0_t1_loop.trips → EReal)
    (h : ∀ k x, g (s k x) = g x + T k) (x : α) : ∀ n (hn : n ≤ k0_t1_loop.trips),
    g (iter s n x) = g x + ∑ k : Fin n, T (Fin.castLE hn k) := by
  intro n
  induction n with
  | zero => intro _; rw [Fin.sum_univ_zero, add_zero]; rfl
  | succ n ih =>
    intro hn
    rw [iter_succ s (⟨n, hn⟩ : Fin k0_t1_loop.trips), h, ih (Nat.le_of_lt hn), Fin.sum_univ_castSucc, add_assoc]
    rfl

theorem iter_add_all {α : Type} (s : Fin k0_t1_loop.trips → α → α) (g : α → EReal) (T : Fin k0_t1_loop.trips → EReal)
    (h : ∀ k x, g (s k x) = g x + T k) (x : α) : g (iter s k0_t1_loop.trips x) = g x + ∑ k, T k := by
  rw [iter_add s g T h x _ le_rfl]; rfl

/-! ## Buffers as arrays of numbers -/

abbrev num14 (c : Dev nD) (f : BufOf Ideal c B14) (i : S15x2x128x6144.Idx) : EReal := B14.view.read (Elt Ideal) f i
abbrev num15 (c : Dev nD) (f : BufOf Ideal c B15) (i : S3x2x640.Idx) : EReal := B15.view.read (Elt Ideal) f i
abbrev num19 (c : Dev nD) (f : BufOf Ideal c B19) (i : S24x6144.Idx) : EReal := B19.view.read (Elt Ideal) f i
abbrev num20 (c : Dev nD) (f : BufOf Ideal c B20) (i : S8x128.Idx) : EReal := B20.view.read (Elt Ideal) f i
abbrev word16 (c : Dev nD) (f : BufOf Ideal c B16) (i : S3x2x640.Idx) : BitVec 32 := B16.view.read (Elt Ideal) f i

/-! ## The words and the scales of a chunk -/

/-- The place of position `l` of chunk `k`. -/
abbrev bat (k : Fin k0_t1_loop.trips) : Fin 3 := ⟨k.val / 5, by have h : k.val < 15 := k.isLt; omega⟩
abbrev pos (k : Fin k0_t1_loop.trips) (l : Fin 128) : Fin 640 := ⟨128 * (k.val % 5) + l.val, by omega⟩

theorem off6_eq : ∀ k : Fin k0_t1_loop.trips, k0_off6 k = ![k.val / 5, 0, 128 * (k.val % 5)] := by decide +kernel
theorem off7_eq : ∀ k : Fin k0_t1_loop.trips, k0_off7 k = ![k.val / 5, 1, 128 * (k.val % 5)] := by decide +kernel

section Chunk
variable (c : Dev nD) (f14 : BufOf Ideal c B14) (f15 : BufOf Ideal c B15) (f16 : BufOf Ideal c B16) (k : Fin k0_t1_loop.trips)

/-- Does position `l` choose expert `e` in its `j`-th choice? -/
def hit (e : ℕ) (j : Fin 2) (l : Fin 128) : BitVec 1 :=
  IntOp.cmpi .eq (BitVec.ofNat 32 e) (word16 c f16 (ix3 (bat k) j (pos k l)))
/-- The scale with which it counts there. -/
def wt (e : ℕ) (j : Fin 2) (l : Fin 128) : EReal :=
  Scalar.select (hit c f16 k e j l) (num15 c f15 (ix3 (bat k) j (pos k l))) 0

theorem word0_at (l : Fin 128) : View.readAt (Elt Ideal) B16.view (Rect.unit (s := S3x2x640) (k0_off6 k) S1x1x128.size (k0_off6_inb k)).toLoadRect f16 (ix3 0 0 l)
    = word16 c f16 (ix3 (bat k) 0 (pos k l)) :=
  readAt_at B16.view f16 _ (off6_eq k) _ (ix3 (bat k) 0 (pos k l)) fun a => match a with
    | ⟨0, _⟩ => rfl
    | ⟨1, _⟩ => rfl
    | ⟨2, _⟩ => rfl
theorem word1_at (l : Fin 128) : View.readAt (Elt Ideal) B16.view (Rect.unit (s := S3x2x640) (k0_off7 k) S1x1x128.size (k0_off7_inb k)).toLoadRect f16 (ix3 0 0 l)
    = word16 c f16 (ix3 (bat k) 1 (pos k l)) :=
  readAt_at B16.view f16 _ (off7_eq k) _ (ix3 (bat k) 1 (pos k l)) fun a => match a with
    | ⟨0, _⟩ => rfl
    | ⟨1, _⟩ => rfl
    | ⟨2, _⟩ => rfl
theorem scale0_at (l : Fin 128) : View.readAt (Elt Ideal) B15.view (Rect.unit (s := S3x2x640) (k0_off6 k) S1x1x128.size (k0_off6_inb k)).toLoadRect f15 (ix3 0 0 l)
    = num15 c f15 (ix3 (bat k) 0 (pos k l)) :=
  readAt_at B15.view f15 _ (off6_eq k) _ (ix3 (bat k) 0 (pos k l)) fun a => match a with
    | ⟨0, _⟩ => rfl
    | ⟨1, _⟩ => rfl
    | ⟨2, _⟩ => rfl
theorem scale1_at (l : Fin 128) : View.readAt (Elt Ideal) B15.view (Rect.unit (s := S3x2x640) (k0_off7 k) S1x1x128.size (k0_off7_inb k)).toLoadRect f15 (ix3 0 0 l)
    = num15 c f15 (ix3 (bat k) 1 (pos k l)) :=
  readAt_at B15.view f15 _ (off7_eq k) _ (ix3 (bat k) 1 (pos k l)) fun a => match a with
    | ⟨0, _⟩ => rfl
    | ⟨1, _⟩ => rfl
    | ⟨2, _⟩ => rfl

/-! ## The counts -/

/-- One, or nothing. -/
def ind (b : BitVec 1) : EReal := FloatOps.sitofp (F := Ideal) .f32 (BitVec.setWidth 32 b)
theorem ind_one : ind 1#1 = 1 := by
  unfold ind; show (((1#32 : BitVec 32).toInt : ℝ) : EReal) = 1; norm_num
theorem ind_zero : ind 0#1 = 0 := by
  unfold ind; show (((0#32 : BitVec 32).toInt : ℝ) : EReal) = 0; norm_num

theorem cntStep_at (x : BufOf Ideal c B20) (e : Fin 8) (l : Fin 128) :
    num20 c (cntStep c f16 k x) (ix2 e l)
      = num20 c x (ix2 e l) + (ind (hit c f16 k e 0 l) + ind (hit c f16 k e 1 l)) := by
  have h0 := View.read_writes_full (Val := Elt Ideal) B20.view B20.view.junk inb_S8x128_S8x128_0_0
    (k0_pay7 (F := Ideal) trip.sl.v273 (trip.sl.r c f16 k)
      (View.readAt (Elt Ideal) B16.view (Rect.unit (s := S3x2x640) (k0_off7 k) S1x1x128.size (k0_off7_inb k)).toLoadRect f16)
      (View.readAt (Elt Ideal) B20.view (Rect.unit (s := S8x128) ![0, 0] S8x128.size inb_S8x128_S8x128_0_0).toLoadRect x)) []
  refine (congrFun h0 (ix2 e l)).trans ?_
  rw [View.readAt_full]
  pointwise [k0_pay7, k0_pay3, k0_pay5, trip.sl.v273, trip.sl.r]
  rw [word0_at, word1_at]
  rfl

/-! ## The weighted sums -/

theorem tile_at (w : FVec Ideal S24x256 .bf16) (Y : Vec Ideal S1x2x128x256 .fp8e4m3) (A : Vec Ideal S24x256 .f32) (r : Fin 24) (d : Fin 256) :
    k0_pay10 w Y A (ix2 r d)
      = A (ix2 r d) + ∑ q : Fin 256, w (ix2 r q) * Y (ix4 (0 : Fin 1) (⟨q.val / 128, by omega⟩ : Fin 2) (⟨q.val % 128, by omega⟩ : Fin 128) d) := by
  pointwise [k0_pay10]

/-- What a trip adds at a row and a column. -/
def addS (w : FVec Ideal S24x256 .bf16) (i : S24x6144.Idx) : EReal :=
  ∑ q : Fin 256, w (ix2 (i 0) q) * num14 c f14 (ix4 k (⟨q.val / 128, by omega⟩ : Fin 2) (⟨q.val % 128, by omega⟩ : Fin 128) (i 1))

/-- One tile more: the columns below `n` hold their sums, and the tile at `n` is stored. -/
theorem tile_step (w : FVec Ideal S24x256 .bf16) (x : BufOf Ideal c B19) (n N : ℕ) (hN : N = n + 256)
    (off : Fin k0_t1_loop.trips → Fin 4 → ℕ) (hoff : ∀ k, off k = ![k.val, 0, 0, n])
    (inb : ∀ a, off k a + S1x2x128x256.size a ≤ S15x2x128x6144.size a) (inb' : ∀ a, (![0, n] : Fin 2 → ℕ) a + S24x256.size a ≤ S24x6144.size a)
    (P : FVec Ideal S24x256 .f32)
    (hP : P = k0_pay10 w (View.readAt (Elt Ideal) B14.view (Rect.unit (s := S15x2x128x6144) (off k) S1x2x128x256.size inb).toLoadRect f14)
      (View.readAt (Elt Ideal) B19.view (Rect.unit (s := S24x6144) ![0, n] S24x256.size inb').toLoadRect x))
    (L : List (View.Piece (Elt Ideal) S24x6144 .f32)) (f : BufOf Ideal c B19)
    (hL : ∀ i : S24x6144.Idx, (i 1).val < n → num19 c (B19.view.writes (Elt Ideal) f L) i = num19 c x i + addS c f14 k w i)
    (i : S24x6144.Idx) (hi : (i 1).val < N) :
    num19 c (B19.view.writes (Elt Ideal) f (⟨Rect.unit (s := S24x6144) ![0, n] S24x256.size inb', P⟩ :: L)) i
      = num19 c x i + addS c f14 k w i := by
  have h0 : (i 0).val < 24 := (i 0).isLt
  have h1 : (i 1).val < 6144 := (i 1).isLt
  by_cases h : (i 1).val < n
  · refine (View.read_writes_cons_unit_of_not_mem B19.view f inb' P L i rfl (1 : Fin 2) (Or.inl h)).trans ?_
    exact hL i h
  · obtain ⟨t, ht⟩ : ∃ t : Fin 256, (i 1).val = n + t.val := ⟨⟨(i 1).val - n, by omega⟩, by show (i 1).val = n + ((i 1).val - n); omega⟩
    refine (View.read_writes_cons_unit_of_mem B19.view f inb' P L i (ix2 (i 0) t) rfl (fun a => match a with
      | ⟨0, _⟩ => (Nat.zero_add _).symm
      | ⟨1, _⟩ => ht)).trans ?_
    rw [hP]
    refine (tile_at _ _ _ (i 0) t).trans (congrArg₂ (fun a b : EReal => a + b) ?_ ?_)
    · exact readAt_at B19.view x inb' rfl (ix2 (i 0) t) i fun a => match a with
        | ⟨0, _⟩ => (Nat.zero_add _).symm
        | ⟨1, _⟩ => ht
    · unfold addS
      refine Finset.sum_congr rfl fun q _ => congrArg (w (ix2 (i 0) q) * ·) ?_
      exact readAt_at B14.view f14 inb (hoff k) _ (ix4 k _ _ (i 1)) fun a => match a with
        | ⟨0, _⟩ => rfl
        | ⟨1, _⟩ => (Nat.zero_add _).symm
        | ⟨2, _⟩ => (Nat.zero_add _).symm
        | ⟨3, _⟩ => ht

theorem sumStep_at (x : BufOf Ideal c B19) (i : S24x6144.Idx) :
    num19 c (sumStep c f14 f15 f16 k x) i
      = num19 c x i + addS c f14 k (trip.sl.r_5 c f15 f16 k) i := by
  have key : ∀ i : S24x6144.Idx, (i 1).val < 6144 →
      num19 c (B19.view.writes (Elt Ideal) B19.view.junk (trip.sl.H19_24 c f14 f15 f16 k x)) i
        = num19 c x i + addS c f14 k (trip.sl.r_5 c f15 f16 k) i := by
    unfold trip.sl.H19_24 trip.sl.H19_22 trip.sl.H19_20 trip.sl.H19_18 trip.sl.H19_16 trip.sl.H19_14 trip.sl.H19_12 trip.sl.H19_10
      trip.sl.H19_8 trip.sl.H19_6 trip.sl.H19_4 trip.sl.H19_2
    iterate 24
      refine tile_step c f14 k (trip.sl.r_5 c f15 f16 k) x _ _ rfl _ (by decide +kernel) _ _ _ rfl _ _ ?_
    intro i hi
    exact absurd hi (Nat.not_lt_zero _)
  exact key i (i 1).isLt

end Chunk

end Cert.KernelIdeal.Hand
end
-- ==== Proof.KIMeans.lean ====
/- The averages the kernel leaves, as sums over all chunks and positions: the counts, and the weighted sums, whose two
   remainder bands are zero where the scales are finite. Extended reals. -/
module

public import proofs.«01_k».proof.Proof.KISums

@[expose] public section

set_option maxRecDepth 100000

noncomputable section

namespace Cert.KernelIdeal.Hand

open Cert.KernelIdeal Cert.KernelIdeal.Gen
open Idealize.ShloMosaic Idealize.ShloMosaic.TcCoe

/-! ## The three bands of weights -/

section Bands
variable (c : Dev nD) (f15 : BufOf Ideal c B15) (f16 : BufOf Ideal c B16) (k : Fin k0_t1_loop.trips)

/-- The weight of a position of the two choices laid end to end. -/
def wq (e : ℕ) (q : Fin 256) : EReal := wt c f15 f16 k e (⟨q.val / 128, by omega⟩ : Fin 2) (⟨q.val % 128, by omega⟩ : Fin 128)

theorem wq_eq (e : ℕ) (q : Fin 256) (v276 v290 : Vec Ideal S1x1x128 .i32) (v282 v296 : Vec Ideal S1x1x128 .f32)
    (h0 : ∀ l, v276 (ix3 0 0 l) = word16 c f16 (ix3 (bat k) 0 (pos k l))) (h1 : ∀ l, v290 (ix3 0 0 l) = word16 c f16 (ix3 (bat k) 1 (pos k l)))
    (g0 : ∀ l, v282 (ix3 0 0 l) = num15 c f15 (ix3 (bat k) 0 (pos k l))) (g1 : ∀ l, v296 (ix3 0 0 l) = num15 c f15 (ix3 (bat k) 1 (pos k l))) :
    (if h : q.val < 128 then
        Scalar.select (IntOp.cmpi .eq (BitVec.ofNat 32 e) (v276 (ix3 0 0 (⟨q.val, h⟩ : Fin 128)))) (v282 (ix3 0 0 (⟨q.val, h⟩ : Fin 128))) 0
      else Scalar.select (IntOp.cmpi .eq (BitVec.ofNat 32 e) (v290 (ix3 0 0 (⟨q.val - 128, by omega⟩ : Fin 128)))) (v296 (ix3 0 0 (⟨q.val - 128, by omega⟩ : Fin 128))) (0 : EReal))
      = wq c f15 f16 k e q := by
  unfold wq wt hit
  by_cases h : q.val < 128
  · rw [dif_pos h, h0, g0]
    have e0 : (⟨q.val / 128, by omega⟩ : Fin 2) = 0 := Fin.ext (by show q.val / 128 = 0; omega)
    have e1 : (⟨q.val % 128, by omega⟩ : Fin 128) = ⟨q.val, h⟩ := Fin.ext (by show q.val % 128 = q.val; omega)
    rw [e0, e1]
  · rw [dif_neg h, h1, g1]
    have e0 : (⟨q.val / 128, by omega⟩ : Fin 2) = 1 := Fin.ext (by show q.val / 128 = 1; omega)
    have e1 : (⟨q.val % 128, by omega⟩ : Fin 128) = ⟨q.val - 128, by omega⟩ := Fin.ext (by show q.val % 128 = q.val - 128; omega)
    rw [e0, e1]

theorem band_hi (e : Fin 8) (q : Fin 256) : trip.sl.r_5 c f15 f16 k (ix2 (⟨e.val, by omega⟩ : Fin 24) q) = wq c f15 f16 k e.val q := by
  unfold trip.sl.r_5 trip.sl.r
  pointwise [k0_pay8, k0_pay3, k0_pay4, k0_pay5, k0_pay6, trip.sl.v273]
  exact wq_eq c f15 f16 k e.val q _ _ _ _ (word0_at c f16 k) (word1_at c f16 k) (scale0_at c f15 k) (scale1_at c f15 k)

variable (hfin : ∀ i, num15 c f15 i ≠ ⊤ ∧ num15 c f15 i ≠ ⊥)

include hfin in
theorem wq_fin (e : ℕ) (q : Fin 256) : wq c f15 f16 k e q - wq c f15 f16 k e q = 0 := by
  unfold wq wt
  have h : Scalar.select (hit c f16 k e (⟨q.val / 128, by omega⟩ : Fin 2) (⟨q.val % 128, by omega⟩ : Fin 128))
      (num15 c f15 (ix3 (bat k) (⟨q.val / 128, by omega⟩ : Fin 2) (pos k (⟨q.val % 128, by omega⟩ : Fin 128)))) 0 ≠ ⊤ ∧
      Scalar.select (hit c f16 k e (⟨q.val / 128, by omega⟩ : Fin 2) (⟨q.val % 128, by omega⟩ : Fin 128))
      (num15 c f15 (ix3 (bat k) (⟨q.val / 128, by omega⟩ : Fin 2) (pos k (⟨q.val % 128, by omega⟩ : Fin 128)))) 0 ≠ ⊥ := by
    unfold Scalar.select
    split_ifs
    · exact hfin _
    · exact ⟨EReal.zero_ne_top, EReal.zero_ne_bot⟩
  exact EReal.sub_self h.1 h.2

include hfin in
theorem band_mid (e : Fin 8) (q : Fin 256) : trip.sl.r_5 c f15 f16 k (ix2 (⟨8 + e.val, by omega⟩ : Fin 24) q) = (0 : EReal) := by
  unfold trip.sl.r_5 trip.sl.r
  pointwise [k0_pay8, k0_pay3, k0_pay4, k0_pay5, k0_pay6, trip.sl.v273]
  have h := wq_eq c f15 f16 k e.val q _ _ _ _ (word0_at c f16 k) (word1_at c f16 k) (scale0_at c f15 k) (scale1_at c f15 k)
  exact (congrArg (fun x : EReal => x - x) h).trans (wq_fin c f15 f16 k hfin _ q)

include hfin in
theorem band_lo (e : Fin 8) (q : Fin 256) : trip.sl.r_5 c f15 f16 k (ix2 (⟨16 + e.val, by omega⟩ : Fin 24) q) = (0 : EReal) := by
  unfold trip.sl.r_5 trip.sl.r
  pointwise [k0_pay8, k0_pay3, k0_pay4, k0_pay5, k0_pay6, trip.sl.v273]
  refine (dif_neg (by omega : ¬ 16 + e.val < 8)).trans ?_
  refine (dif_neg (by omega : ¬ 16 + e.val - 8 < 8)).trans ?_
  have h := wq_eq c f15 f16 k (16 + e.val - 8 - 8) q _ _ _ _ (word0_at c f16 k) (word1_at c f16 k) (scale0_at c f15 k) (scale1_at c f15 k)
  exact (congrArg (fun x : EReal => x - x - (x - x)) h).trans (by rw [wq_fin c f15 f16 k hfin _ q, sub_zero])

end Bands

/-! ## The accumulators once every chunk is in -/

section Fin
variable (c : Dev nD) (a3 : BufOf Ideal c A3) (a4 : BufOf Ideal c A4) (a5 : BufOf Ideal c A5)

abbrev numY (i : S3x2x640x6144.Idx) : EReal := A3.view.read (Elt Ideal) a3 i

theorem finC_at (e : Fin 8) (l : Fin 128) :
    num20 c (finC c a5) (ix2 e l) = ∑ k, (ind (hit c a5 k e.val 0 l) + ind (hit c a5 k e.val 1 l)) := by
  have h := iter_add_all (cntStep c a5) (fun x => num20 c x (ix2 e l)) _ (fun k x => cntStep_at c a5 k x e l) (k0_pay1403 (F := Ideal) k0_pay1402 : BufOf Ideal c B20)
  refine h.trans ?_
  have z : num20 c (k0_pay1403 (F := Ideal) k0_pay1402 : BufOf Ideal c B20) (ix2 e l) = 0 := by
    show (k0_pay1403 (F := Ideal) k0_pay1402) (ix2 e l) = 0
    pointwise [k0_pay1403, k0_pay1402]
  exact (congrArg (· + _) z).trans (zero_add _)

theorem finS_at (i : S24x6144.Idx) :
    num19 c (finS c a3 a4 a5) i = ∑ k, addS c (ringY c a3) k (trip.sl.r_5 c a4 a5 k) i := by
  have h := iter_add_all (sumStep c (ringY c a3) a4 a5) (fun x => num19 c x i) _ (fun k x => sumStep_at c (ringY c a3) a4 a5 k x i) (k0_pay1401 (F := Ideal) : BufOf Ideal c B19)
  refine h.trans ?_
  have z : num19 c (k0_pay1401 (F := Ideal) : BufOf Ideal c B19) i = 0 := by
    show (k0_pay1401 (F := Ideal)) i = 0
    pointwise [k0_pay1401]
  exact (congrArg (· + _) z).trans (zero_add _)

theorem rowC_at (e : Fin 8) (j : Fin 1) :
    rowC c (finC c a5) (ix2 e j) = ∑ l : Fin 128, ∑ k, (ind (hit c a5 k e.val 0 l) + ind (hit c a5 k e.val 1 l)) := by
  unfold rowC
  rw [View.readAt_full]
  pointwise [k0_pay1408]
  exact Finset.sum_congr rfl fun l _ => finC_at c a5 e l

theorem ringY_at (k : Fin k0_t1_loop.trips) (j : Fin 2) (l : Fin 128) (d : Fin 6144) :
    num14 c (ringY c a3) (ix4 k j l d) = numY c a3 (ix4 (bat k) j (pos k l) d) := by
  show a3 (gatherY _) = a3 _
  congr 1

theorem rowS_at (hfin : ∀ i, num15 c a4 i ≠ ⊤ ∧ num15 c a4 i ≠ ⊥) (e : Fin 8) (d : Fin 6144) :
    rowS c (finS c a3 a4 a5) (ix2 e d)
      = ∑ k, ∑ q : Fin 256, wq c a4 a5 k e.val q * numY c a3 (ix4 (bat k) (⟨q.val / 128, by omega⟩ : Fin 2) (pos k ⟨q.val % 128, by omega⟩) d) := by
  unfold rowS
  pointwise [k0_pay1409]
  have r0 := (readAt_at B19.view (finS c a3 a4 a5) inb_S24x6144_S8x6144_0_0 rfl (ix2 e d) (ix2 (⟨e.val, by omega⟩ : Fin 24) d) (fun a => match a with
    | ⟨0, _⟩ => (Nat.zero_add _).symm
    | ⟨1, _⟩ => (Nat.zero_add _).symm)).trans (finS_at c a3 a4 a5 _)
  have r1 := (readAt_at B19.view (finS c a3 a4 a5) inb_S24x6144_S8x6144_8_0 rfl (ix2 e d) (ix2 (⟨8 + e.val, by omega⟩ : Fin 24) d) (fun a => match a with
    | ⟨0, _⟩ => rfl
    | ⟨1, _⟩ => (Nat.zero_add _).symm)).trans (finS_at c a3 a4 a5 _)
  have r2 := (readAt_at B19.view (finS c a3 a4 a5) inb_S24x6144_S8x6144_16_0 rfl (ix2 e d) (ix2 (⟨16 + e.val, by omega⟩ : Fin 24) d) (fun a => match a with
    | ⟨0, _⟩ => rfl
    | ⟨1, _⟩ => (Nat.zero_add _).symm)).trans (finS_at c a3 a4 a5 _)
  have z1 : ∑ k, addS c (ringY c a3) k (trip.sl.r_5 c a4 a5 k) (ix2 (⟨8 + e.val, by omega⟩ : Fin 24) d) = 0 :=
    Finset.sum_eq_zero fun k _ => Finset.sum_eq_zero fun q _ => (congrArg (fun x : EReal => x * _) (band_mid c a4 a5 k hfin e q)).trans (zero_mul _)
  have z2 : ∑ k, addS c (ringY c a3) k (trip.sl.r_5 c a4 a5 k) (ix2 (⟨16 + e.val, by omega⟩ : Fin 24) d) = 0 :=
    Finset.sum_eq_zero fun k _ => Finset.sum_eq_zero fun q _ => (congrArg (fun x : EReal => x * _) (band_lo c a4 a5 k hfin e q)).trans (zero_mul _)
  have s0 : ∑ k, addS c (ringY c a3) k (trip.sl.r_5 c a4 a5 k) (ix2 (⟨e.val, by omega⟩ : Fin 24) d)
      = ∑ k, ∑ q : Fin 256, wq c a4 a5 k e.val q * numY c a3 (ix4 (bat k) (⟨q.val / 128, by omega⟩ : Fin 2) (pos k ⟨q.val % 128, by omega⟩) d) :=
    Finset.sum_congr rfl fun k _ => Finset.sum_congr rfl fun q _ => congrArg₂ (fun a b : EReal => a * b) (band_hi c a4 a5 k e q) (ringY_at c a3 k _ _ d)
  refine (congrArg₂ (fun a b : EReal => a + b) (r0.trans s0) (congrArg₂ (fun a b : EReal => a + b) (r1.trans z1) (r2.trans z2))).trans ?_
  rw [add_zero, add_zero]

end Fin

end Cert.KernelIdeal.Hand
end
-- ==== Proof.KIDots.lean ====
/- A chunk's router gradient as the loop leaves it, in one shape for all tiles: the dot products of 128 positions with their
   chosen rows, in four groups of 32 positions, two halves each, 48 tiles of 128 columns; and the dot products with the
   averages, 24 tiles of 256 columns. -/
module

public import proofs.«01_k».proof.Proof.KIMeans

@[expose] public section

set_option maxRecDepth 100000

noncomputable section

namespace Cert.KernelIdeal.Hand

open Cert.KernelIdeal Cert.KernelIdeal.Gen
open Idealize.ShloMosaic Idealize.ShloMosaic.TcCoe

section Chain
variable {F : FTy → Type} [FloatOps F] (c : Dev nD) (f12 : BufOf F c B12) (f14 : BufOf F c B14) (k : Fin k0_t1_loop.trips)

theorem inbG (g : Fin 4) (t : Fin 48) : ∀ a, (![32 * g.val, 128 * t.val] : Fin 2 → ℕ) a + S32x128.size a ≤ S128x6144.size a := by
  intro a
  match a with
  | ⟨0, _⟩ => show 32 * g.val + 32 ≤ 128; omega
  | ⟨1, _⟩ => show 128 * t.val + 128 ≤ 6144; omega
theorem inbY (j : Fin 2) (g : Fin 4) (t : Fin 48) : ∀ a, (![j.val, 32 * g.val, 128 * t.val] : Fin 3 → ℕ) a + S1x32x128.size a ≤ S2x128x6144.size a := by
  intro a
  match a with
  | ⟨0, _⟩ => show j.val + 1 ≤ 2; omega
  | ⟨1, _⟩ => show 32 * g.val + 32 ≤ 128; omega
  | ⟨2, _⟩ => show 128 * t.val + 128 ≤ 6144; omega
theorem cutH (h : Fin 2) : S32x128.Slices ![16 * h.val, 0] S16x128 := by
  match h with
  | 0 => exact slices_S32x128_o0_0_S16x128
  | 1 => exact slices_S32x128_o16_0_S16x128

/-- What is loaded for a group of positions at a tile. -/
def loadG (g : Fin 4) (t : Fin 48) : Vec F S32x128 .fp8e5m2 :=
  View.readAt (Elt F) (sG k).view (Rect.unit (s := S128x6144) ![32 * g.val, 128 * t.val] S32x128.size (inbG g t)).toLoadRect f12
def loadY (j : Fin 2) (g : Fin 4) (t : Fin 48) : Vec F S1x32x128 .fp8e4m3 :=
  View.readAt (Elt F) (sY k).view (Rect.unit (s := S2x128x6144) ![j.val, 32 * g.val, 128 * t.val] S1x32x128.size (inbY j g t)).toLoadRect f14

/-- The products of one tile of 128 columns, for 16 positions. -/
def prodV (j : Fin 2) (g : Fin 4) (h : Fin 2) (t : Fin 48) : FVec F S16x128 .f32 :=
  mulf
    (extf .f32 (extractStridedSlice S16x128 ![16 * h.val, 0] (extf .bf16 (loadG c f12 k g t) bitsLt_fp8e5m2_bf16) (cutH h)) bitsLt_bf16_f32)
    (extf .f32 (extractStridedSlice S16x128 ![16 * h.val, 0] (extf .bf16 (shapeCast S32x128 (loadY c f14 k j g t) shapeCasts_S1x32x128_S32x128) bitsLt_fp8e4m3_bf16) (cutH h)) bitsLt_bf16_f32)

/-- The products of the first `n + 1` tiles, added. -/
def chainV (j : Fin 2) (g : Fin 4) (h : Fin 2) : (n : ℕ) → n < 48 → FVec F S16x128 .f32
  | 0, hn => prodV c f12 f14 k j g h ⟨0, hn⟩
  | n + 1, hn => addf (chainV j g h n (Nat.lt_of_succ_lt hn)) (prodV c f12 f14 k j g h ⟨n + 1, hn⟩)

/-! The loop's sixteen sums; the last tile of the last group is added where the groups are joined. -/

theorem chain_000 : trip.sl.r_264 c f12 f14 k = chainV c f12 f14 k 0 0 0 47 (by omega) := rfl
theorem chain_001 : trip.sl.r_265 c f12 f14 k = chainV c f12 f14 k 0 0 1 47 (by omega) := rfl
theorem chain_010 : trip.sl.r_521 c f12 f14 k = chainV c f12 f14 k 0 1 0 47 (by omega) := rfl
theorem chain_011 : trip.sl.r_524 c f12 f14 k = chainV c f12 f14 k 0 1 1 47 (by omega) := rfl
theorem chain_020 : trip.sl.r_768 c f12 f14 k = chainV c f12 f14 k 0 2 0 47 (by omega) := rfl
theorem chain_021 : trip.sl.r_769 c f12 f14 k = chainV c f12 f14 k 0 2 1 47 (by omega) := rfl
theorem chain_100 : trip.sl.r_266 c f12 f14 k = chainV c f12 f14 k 1 0 0 47 (by omega) := rfl
theorem chain_101 : trip.sl.r_267 c f12 f14 k = chainV c f12 f14 k 1 0 1 47 (by omega) := rfl
theorem chain_110 : trip.sl.r_525 c f12 f14 k = chainV c f12 f14 k 1 1 0 47 (by omega) := rfl
theorem chain_111 : trip.sl.r_526 c f12 f14 k = chainV c f12 f14 k 1 1 1 47 (by omega) := rfl
theorem chain_120 : trip.sl.r_770 c f12 f14 k = chainV c f12 f14 k 1 2 0 47 (by omega) := rfl
theorem chain_121 : trip.sl.r_771 c f12 f14 k = chainV c f12 f14 k 1 2 1 47 (by omega) := rfl

theorem blocksG (t : Fin 24) (k : Fin k0_t1_loop.trips) : ∀ a, (![k0_off8 k 0, 0, 256 * t.val] : Fin 3 → ℕ) a + S1x128x256.size a ≤ S15x128x6144.size a := by
  intro a
  match a with
  | ⟨0, _⟩ => exact k0_off8_inb k 0
  | ⟨1, _⟩ => show 0 + 128 ≤ 128; omega
  | ⟨2, _⟩ => show 256 * t.val + 256 ≤ 6144; omega
theorem blocksE (t : Fin 24) : ∀ a, (![0, 256 * t.val] : Fin 2 → ℕ) a + S8x256.size a ≤ S8x6144.size a := by
  intro a
  match a with
  | ⟨0, _⟩ => show 0 + 8 ≤ 8; omega
  | ⟨1, _⟩ => show 256 * t.val + 256 ≤ 6144; omega

variable (f13 : BufOf F c B13) (f15 : BufOf F c B15) (f16 : BufOf F c B16) (f18 : BufOf F c B18)

/-- The dot products of one tile of 256 columns with the averages. -/
def denseV (t : Fin 24) : FVec F S8x128 .f32 :=
  matmul dot_S8x256_S128x256_S8x128_1_1_0_0_n_n none
    (View.readAt (Elt F) B18.view (Rect.unit (s := S8x6144) ![0, 256 * t.val] S8x256.size (blocksE t)).toLoadRect f18 : Vec F S8x256 .bf16)
    (shapeCast S128x256 (View.readAt (Elt F) B12.view (Rect.unit (s := S15x128x6144) ![k0_off8 k 0, 0, 256 * t.val] S1x128x256.size (blocksG t k)).toLoadRect f12 : Vec F S1x128x256 .fp8e5m2) shapeCasts_S1x128x256_S128x256)
    (constant S8x128 .f32 0x00000000#32)

/-- Those of the first `n` tiles, added. -/
def denseSum : (n : ℕ) → n ≤ 24 → FVec F S8x128 .f32
  | 0, hn => broadcast S8x128 (Scalar.ofBits .f32 0x00000000#32 : F .f32)
  | n + 1, hn => addf (denseSum n (Nat.le_of_succ_le hn)) (denseV c f12 k f18 ⟨n, hn⟩)

theorem dense_eq : trip.sl.r_29 c f12 f18 k = denseSum c f12 k f18 24 (by omega) := rfl

/-- Dot products of all 128 positions. -/
def selV (j : Fin 2) : FVec F S128x128 .f32 :=
  concatenate S128x128 0 [⟨S16x128, chainV c f12 f14 k j 0 0 47 (by omega)⟩, ⟨S16x128, chainV c f12 f14 k j 0 1 47 (by omega)⟩,
    ⟨S16x128, chainV c f12 f14 k j 1 0 47 (by omega)⟩, ⟨S16x128, chainV c f12 f14 k j 1 1 47 (by omega)⟩,
    ⟨S16x128, chainV c f12 f14 k j 2 0 47 (by omega)⟩, ⟨S16x128, chainV c f12 f14 k j 2 1 47 (by omega)⟩,
    ⟨S16x128, chainV c f12 f14 k j 3 0 47 (by omega)⟩, ⟨S16x128, chainV c f12 f14 k j 3 1 47 (by omega)⟩]
    concatenates_S16x128_S16x128_S16x128_S16x128_S16x128_S16x128_S16x128_S16x128_S128x128_d0
/-- Each row added up. -/
def selRow (j : Fin 2) : FVec F S1x128 .f32 :=
  shapeCast S1x128 (multiReduction .add [0] S128 (transpose S128x128 [1, 0] (selV c f12 f14 k j) transposes_S128x128_p1_0_S128x128) 0x00000000#32 reduces_S128x128_S128 (.inl rfl) rfl) shapeCasts_S128_S1x128

theorem first_eq : trip.sl.r_1002 c f12 f13 f14 f15 f16 f18 k
    = select (trip.sl.r_1 c f16 k)
        (broadcastTo S8x128 (shapeCast S1x128 (mulf (selRow c f12 f14 k 0) (mulf (trip.sl.r_31 c f13 k) (trip.sl.r_2 c f15 k))) shapeCasts_S1x128_S1x128) broadcasts_S1x128_S8x128)
        (trip.sl.r_32 c f12 f13 f18 k) := by
  unfold trip.sl.r_1002 selRow selV
  rw [chain_000, chain_001, chain_010, chain_011, chain_020, chain_021]
  rfl
theorem second_eq : trip.sl.r_1003 c f12 f13 f14 f15 k
    = shapeCast S1x128 (mulf (selRow c f12 f14 k 1) (mulf (trip.sl.r_31 c f13 k) (trip.sl.r_4 c f15 k))) shapeCasts_S1x128_S1x128 := by
  unfold trip.sl.r_1003 selRow selV
  rw [chain_100, chain_101, chain_110, chain_111, chain_120, chain_121]
  rfl

/-- The router gradient of a chunk, as one vector. -/
def gradV : FVec F S8x128 .f32 :=
  select (trip.sl.r_3 c f16 k)
    (broadcastTo S8x128 (shapeCast S1x128 (mulf (selRow c f12 f14 k 1) (mulf (trip.sl.r_31 c f13 k) (trip.sl.r_4 c f15 k))) shapeCasts_S1x128_S1x128) broadcasts_S1x128_S8x128)
    (select (trip.sl.r_1 c f16 k)
      (broadcastTo S8x128 (shapeCast S1x128 (mulf (selRow c f12 f14 k 0) (mulf (trip.sl.r_31 c f13 k) (trip.sl.r_2 c f15 k))) shapeCasts_S1x128_S1x128) broadcasts_S1x128_S8x128)
      (mulf (denseSum c f12 k f18 24 (by omega)) (broadcastTo S8x128 (trip.sl.r_31 c f13 k) broadcasts_S1x128_S8x128)))

theorem grad_eq : k0_pay1405 (trip.sl.r_3 c f16 k) (trip.sl.r_1002 c f12 f13 f14 f15 f16 f18 k) (trip.sl.r_1003 c f12 f13 f14 f15 k)
    = gradV c f12 f14 k f13 f15 f16 f18 := by
  unfold gradV
  rw [first_eq, second_eq, ← dense_eq]
  rfl
end Chain
end Cert.KernelIdeal.Hand
end
-- ==== Proof.KIGrad.lean ====
/- A chunk's router gradient, read at an expert and a position. Extended reals. -/
module

public import proofs.«01_k».proof.Proof.KIDots

@[expose] public section

set_option maxRecDepth 100000

noncomputable section

namespace Cert.KernelIdeal.Hand

open Cert.KernelIdeal Cert.KernelIdeal.Gen
open Idealize.ShloMosaic Idealize.ShloMosaic.TcCoe

abbrev num12 (c : Dev nD) (f : BufOf Ideal c B12) (i : S15x128x6144.Idx) : EReal := B12.view.read (Elt Ideal) f i
abbrev num13 (c : Dev nD) (f : BufOf Ideal c B13) (i : S3x640.Idx) : EReal := B13.view.read (Elt Ideal) f i
abbrev num18 (c : Dev nD) (f : BufOf Ideal c B18) (i : S8x6144.Idx) : EReal := B18.view.read (Elt Ideal) f i

/-- Tiles of `b` columns, added: all columns. -/
theorem sum_tiles (a b n : ℕ) (h : a * b = n) (g : Fin n → EReal) :
    ∑ t : Fin a, ∑ x : Fin b, g ⟨b * t.val + x.val, by
      have h1 : b * t.val + b ≤ b * a := by rw [← Nat.mul_succ]; exact Nat.mul_le_mul_left b t.isLt
      have h2 : b * a = n := (Nat.mul_comm b a).trans h
      have := x.isLt
      omega⟩ = ∑ d, g d := by
  subst h
  rw [← Finset.sum_product', Finset.univ_product_univ]
  refine Fintype.sum_equiv (finProdFinEquiv (m := a) (n := b)) _ _ fun p => ?_
  obtain ⟨t, x⟩ := p
  refine congrArg g (Fin.ext ?_)
  show b * t.val + x.val = x.val + b * t.val
  exact Nat.add_comm _ _

section Chunk
variable (c : Dev nD) (f12 : BufOf Ideal c B12) (f14 : BufOf Ideal c B14) (k : Fin k0_t1_loop.trips)

theorem castG_at (v : Vec Ideal S1x128x6144 .fp8e5m2) (hc : S1x128x6144.ShapeCasts S128x6144) (r : Fin 128) (d : Fin 6144) :
    (shapeCast S128x6144 v hc : Vec Ideal S128x6144 .fp8e5m2) (ix2 r d) = v (ix3 (0 : Fin 1) r d) := by
  pointwise []
theorem castY_at (v : Vec Ideal S1x2x128x6144 .fp8e4m3) (hc : S1x2x128x6144.ShapeCasts S2x128x6144) (j : Fin 2) (r : Fin 128) (d : Fin 6144) :
    (shapeCast S2x128x6144 v hc : Vec Ideal S2x128x6144 .fp8e4m3) (ix3 j r d) = v (ix4 (0 : Fin 1) j r d) := by
  pointwise []

theorem slotG_at (r : Fin 128) (d : Fin 6144) : (sG k).view.read (Elt Ideal) f12 (ix2 r d) = num12 c f12 (ix3 k r d) := by
  have h := readAt_at B12.view f12 (k0_off2_inb k) (k0_off2_eq k) (ix3 (0 : Fin 1) r d) (ix3 k r d) (fun a => match a with
    | ⟨0, _⟩ => rfl
    | ⟨1, _⟩ => (Nat.zero_add _).symm
    | ⟨2, _⟩ => (Nat.zero_add _).symm)
  exact (castG_at (B12.view.readAt (Elt Ideal) (Rect.unit (s := S15x128x6144) (k0_off2 k) S1x128x6144.size (k0_off2_inb k)).toLoadRect f12) (by decide) r d).trans h
theorem slotY_at (j : Fin 2) (r : Fin 128) (d : Fin 6144) : (sY k).view.read (Elt Ideal) f14 (ix3 j r d) = num14 c f14 (ix4 k j r d) := by
  have h := readAt_at B14.view f14 (k0_off4_inb k) (k0_off4_eq k) (ix4 (0 : Fin 1) j r d) (ix4 k j r d) (fun a => match a with
    | ⟨0, _⟩ => rfl
    | ⟨1, _⟩ => (Nat.zero_add _).symm
    | ⟨2, _⟩ => (Nat.zero_add _).symm
    | ⟨3, _⟩ => (Nat.zero_add _).symm)
  exact (castY_at (B14.view.readAt (Elt Ideal) (Rect.unit (s := S15x2x128x6144) (k0_off4 k) S1x2x128x6144.size (k0_off4_inb k)).toLoadRect f14) (by decide) j r d).trans h

theorem loadG_at (g : Fin 4) (t : Fin 48) (r : Fin 32) (x : Fin 128) :
    loadG c f12 k g t (ix2 r x) = num12 c f12 (ix3 k (⟨32 * g.val + r.val, by omega⟩ : Fin 128) (⟨128 * t.val + x.val, by omega⟩ : Fin 6144)) :=
  (readAt_at (sG k).view f12 (inbG g t) rfl (ix2 r x) (ix2 (⟨32 * g.val + r.val, by omega⟩ : Fin 128) (⟨128 * t.val + x.val, by omega⟩ : Fin 6144)) fun a => match a with
    | ⟨0, _⟩ => rfl
    | ⟨1, _⟩ => rfl).trans (slotG_at c f12 k _ _)
theorem loadY_at (j : Fin 2) (g : Fin 4) (t : Fin 48) (r : Fin 32) (x : Fin 128) :
    loadY c f14 k j g t (ix3 (0 : Fin 1) r x) = num14 c f14 (ix4 k j (⟨32 * g.val + r.val, by omega⟩ : Fin 128) (⟨128 * t.val + x.val, by omega⟩ : Fin 6144)) :=
  (readAt_at (sY k).view f14 (inbY j g t) rfl (ix3 (0 : Fin 1) r x) (ix3 j (⟨32 * g.val + r.val, by omega⟩ : Fin 128) (⟨128 * t.val + x.val, by omega⟩ : Fin 6144)) fun a => match a with
    | ⟨0, _⟩ => rfl
    | ⟨1, _⟩ => rfl
    | ⟨2, _⟩ => rfl).trans (slotY_at c f14 k _ _ _)

/-- A position's number times its chosen row's, at a column. -/
def prodAt (j : Fin 2) (r : Fin 128) (d : Fin 6144) : EReal := num12 c f12 (ix3 k r d) * num14 c f14 (ix4 k j r d)

theorem prodV_at (j : Fin 2) (g : Fin 4) (h : Fin 2) (t : Fin 48) (r : Fin 16) (x : Fin 128) :
    prodV c f12 f14 k j g h t (ix2 r x)
      = prodAt c f12 f14 k j (⟨32 * g.val + 16 * h.val + r.val, by omega⟩ : Fin 128) (⟨128 * t.val + x.val, by omega⟩ : Fin 6144) := by
  have e : (⟨32 * g.val + 16 * h.val + r.val, by omega⟩ : Fin 128) = ⟨32 * g.val + (⟨16 * h.val + r.val, by omega⟩ : Fin 32).val, by omega⟩ := Fin.ext (Nat.add_assoc _ _ _)
  unfold prodAt
  rw [e, ← loadG_at, ← loadY_at]
  match h with
  | 0 =>
    pointwise [prodV]
  | 1 =>
    pointwise [prodV]

theorem chainV_at (j : Fin 2) (g : Fin 4) (h : Fin 2) (r : Fin 16) (x : Fin 128) : ∀ n (hn : n < 48),
    chainV c f12 f14 k j g h n hn (ix2 r x)
      = ∑ t : Fin (n + 1), prodAt c f12 f14 k j (⟨32 * g.val + 16 * h.val + r.val, by omega⟩ : Fin 128) (⟨128 * t.val + x.val, by omega⟩ : Fin 6144) := by
  intro n
  induction n with
  | zero =>
    intro hn
    rw [Fin.sum_univ_one]
    exact prodV_at c f12 f14 k j g h ⟨0, hn⟩ r x
  | succ n ih =>
    intro hn
    rw [Fin.sum_univ_castSucc]
    exact congrArg₂ (fun a b : EReal => a + b) (ih (Nat.lt_of_succ_lt hn)) (prodV_at c f12 f14 k j g h ⟨n + 1, hn⟩ r x)

theorem selV_at (j : Fin 2) (q : Fin 128) (x : Fin 128) :
    selV c f12 f14 k j (ix2 q x) = ∑ t : Fin 48, prodAt c f12 f14 k j q (⟨128 * t.val + x.val, by omega⟩ : Fin 6144) := by
  pointwise [selV]
  split_ifs
  all_goals
    rw [chainV_at]
    refine Finset.sum_congr rfl fun t _ => congrArg (fun r => prodAt c f12 f14 k j r _) (Fin.ext ?_)
    simp only [Fin.val_zero, Fin.val_one, Fin.val_two]
    try omega

theorem selRow_at (j : Fin 2) (l : Fin 128) :
    selRow c f12 f14 k j (ix2 (0 : Fin 1) l) = ∑ d, prodAt c f12 f14 k j l d := by
  pointwise [selRow]
  refine (Finset.sum_congr rfl fun x _ => selV_at c f12 f14 k j l x).trans ?_
  rw [Finset.sum_comm]
  exact sum_tiles 48 128 6144 rfl (prodAt c f12 f14 k j l)

/-! ## The scale of `dy`, and the dot products with the averages -/

variable (f13 : BufOf Ideal c B13) (f15 : BufOf Ideal c B15) (f16 : BufOf Ideal c B16) (f18 : BufOf Ideal c B18)

theorem off56_eq : ∀ k : Fin k0_t1_loop.trips, k0_off56 k = ![0, 128 * (k.val % 5)] := by decide +kernel
theorem batch_eq : ∀ (k : Fin k0_t1_loop.trips) (b : Fin 3), IntOp.cmpi .eq (BitVec.ofNat 32 b.val) (trip.sl.v255 k) = BitVec.ofBool (b = bat k) := by decide +kernel

theorem masked_at (w : BitVec 32) (v : Vec Ideal S3x128 .f32) (l : Fin 128) :
    k0_pay47 (k0_pay46 w) v (ix2 (0 : Fin 1) l) = ∑ b : Fin 3, Scalar.select (IntOp.cmpi .eq (BitVec.ofNat 32 b.val) w) (v (ix2 b l)) (0 : EReal) := by
  pointwise [k0_pay47, k0_pay46]

theorem scaleRow_at (l : Fin 128) : trip.sl.r_31 c f13 k (ix2 (0 : Fin 1) l) = num13 c f13 (ix2 (bat k) (pos k l)) := by
  unfold trip.sl.r_31 trip.sl.r_30
  rw [masked_at]
  have h : ∀ b : Fin 3, View.readAt (Elt Ideal) B13.view (Rect.unit (s := S3x640) (k0_off56 k) S3x128.size (k0_off56_inb k)).toLoadRect f13 (ix2 b l) = num13 c f13 (ix2 b (pos k l)) :=
    fun b => readAt_at B13.view f13 _ (off56_eq k) _ (ix2 b (pos k l)) fun a => match a with
      | ⟨0, _⟩ => (Nat.zero_add _).symm
      | ⟨1, _⟩ => rfl
  refine (Finset.sum_congr rfl fun b _ => ?_ : _ = ∑ b : Fin 3, if b = bat k then num13 c f13 (ix2 b (pos k l)) else 0).trans ?_
  · rw [h, batch_eq]
    by_cases hb : b = bat k
    · rw [if_pos hb, decide_eq_true hb]; rfl
    · rw [if_neg hb, decide_eq_false hb]; rfl
  · rw [Finset.sum_ite_eq' Finset.univ (bat k), if_pos (Finset.mem_univ _)]

theorem off8_first : ∀ k : Fin k0_t1_loop.trips, k0_off8 k 0 = k.val := by decide +kernel

theorem dots_at (E : Vec Ideal S8x256 .bf16) (G : Vec Ideal S1x128x256 .fp8e5m2) (e : Fin 8) (l : Fin 128) :
    matmul (φ₁ := .bf16) (φ₂ := .fp8e5m2) dot_S8x256_S128x256_S8x128_1_1_0_0_n_n none E (shapeCast S128x256 G shapeCasts_S1x128x256_S128x256) (constant (F := Ideal) S8x128 .f32 0x00000000#32) (ix2 e l)
      = ∑ x : Fin 256, E (ix2 e x) * G (ix3 (0 : Fin 1) l x) := by
  pointwise []

theorem denseV_at (t : Fin 24) (e : Fin 8) (l : Fin 128) :
    denseV c f12 k f18 t (ix2 e l)
      = ∑ x : Fin 256, num18 c f18 (ix2 e (⟨256 * t.val + x.val, by omega⟩ : Fin 6144)) * num12 c f12 (ix3 k l (⟨256 * t.val + x.val, by omega⟩ : Fin 6144)) := by
  refine (dots_at _ _ e l).trans ?_
  refine Finset.sum_congr rfl fun x _ => congrArg₂ (fun a b : EReal => a * b) ?_ ?_
  · exact readAt_at B18.view f18 (blocksE t) rfl (ix2 e x) (ix2 e (⟨256 * t.val + x.val, by omega⟩ : Fin 6144)) fun a => match a with
      | ⟨0, _⟩ => (Nat.zero_add _).symm
      | ⟨1, _⟩ => rfl
  · exact readAt_at B12.view f12 (blocksG t k) rfl (ix3 (0 : Fin 1) l x) (ix3 k l (⟨256 * t.val + x.val, by omega⟩ : Fin 6144)) fun a => match a with
      | ⟨0, _⟩ => (off8_first k).symm
      | ⟨1, _⟩ => (Nat.zero_add _).symm
      | ⟨2, _⟩ => rfl

theorem denseSum_at (e : Fin 8) (l : Fin 128) : ∀ n (hn : n ≤ 24),
    denseSum c f12 k f18 n hn (ix2 e l)
      = ∑ t : Fin n, ∑ x : Fin 256, num18 c f18 (ix2 e (⟨256 * t.val + x.val, by omega⟩ : Fin 6144)) * num12 c f12 (ix3 k l (⟨256 * t.val + x.val, by omega⟩ : Fin 6144)) := by
  intro n
  induction n with
  | zero =>
    intro hn
    rw [Fin.sum_univ_zero]
    pointwise [denseSum]
  | succ n ih =>
    intro hn
    rw [Fin.sum_univ_castSucc]
    exact congrArg₂ (fun a b : EReal => a + b) (ih (Nat.le_of_succ_le hn)) (denseV_at c f12 k f18 ⟨n, hn⟩ e l)

theorem dense_at (e : Fin 8) (l : Fin 128) :
    denseSum c f12 k f18 24 (by omega) (ix2 e l) = ∑ d, num18 c f18 (ix2 e d) * num12 c f12 (ix3 k l d) :=
  (denseSum_at c f12 k f18 e l 24 (by omega)).trans (sum_tiles 24 256 6144 rfl fun d => num18 c f18 (ix2 e d) * num12 c f12 (ix3 k l d))

/-- The router gradient at an expert and a position. -/
def gradAt (e : Fin 8) (l : Fin 128) : EReal :=
  Scalar.select (hit c f16 k e.val 1 l)
    ((∑ d, prodAt c f12 f14 k 1 l d) * (num13 c f13 (ix2 (bat k) (pos k l)) * num15 c f15 (ix3 (bat k) 1 (pos k l))))
    (Scalar.select (hit c f16 k e.val 0 l)
      ((∑ d, prodAt c f12 f14 k 0 l d) * (num13 c f13 (ix2 (bat k) (pos k l)) * num15 c f15 (ix3 (bat k) 0 (pos k l))))
      ((∑ d, num18 c f18 (ix2 e d) * num12 c f12 (ix3 k l d)) * num13 c f13 (ix2 (bat k) (pos k l))))

theorem gradV_at (e : Fin 8) (l : Fin 128) :
    gradV c f12 f14 k f13 f15 f16 f18 (ix2 e l) = gradAt c f12 f14 k f13 f15 f16 f18 e l := by
  unfold gradAt
  rw [← dense_at, ← selRow_at, ← selRow_at, ← scaleRow_at, ← scale0_at, ← scale1_at]
  unfold hit
  rw [← word0_at, ← word1_at]
  pointwise [gradV, trip.sl.r_1, trip.sl.r_2, trip.sl.r_3, trip.sl.r_4, trip.sl.r, k0_pay3, k0_pay4, k0_pay5, k0_pay6, trip.sl.v273]

theorem gradD_at (e : Fin 8) (l : Fin 128) :
    payD c f12 f13 f14 f15 f16 f18 k (ix3 (0 : Fin 1) e l) = gradAt c f12 f14 k f13 f15 f16 f18 e l := by
  refine Eq.trans ?_ (gradV_at c f12 f14 k f13 f15 f16 f18 e l)
  rw [← grad_eq]
  show k0_pay1406 (trip.sl.r_3 c f16 k) (trip.sl.r_1002 c f12 f13 f14 f15 f16 f18 k) (trip.sl.r_1003 c f12 f13 f14 f15 k) (ix3 (0 : Fin 1) e l) = _
  unfold k0_pay1406
  generalize k0_pay1405 (trip.sl.r_3 c f16 k) (trip.sl.r_1002 c f12 f13 f14 f15 f16 f18 k) (trip.sl.r_1003 c f12 f13 f14 f15 k) = v
  pointwise []

end Chunk
end Cert.KernelIdeal.Hand
end
-- ==== Proof.KIValue.lean ====
/- The averages the kernel leaves are the reference's: both are sums over the same 3840 choices, the reference in the order of
   the argument and the kernel chunk by chunk, one choice of a chunk after the other. -/
module

public import proofs.«01_k».proof.Proof.KIMeans
public import proofs.«01_k».proof.Proof.KIFrame
public import proofs.«01_k».proof.Proof.Gen.ReferenceIdeal.Value
public import Idealize.ShloMosaic.Lib.Pointwise
public import Idealize.ShloMosaic.Lib.StableHlo.ReadAt

@[expose] public section

set_option maxRecDepth 100000

noncomputable section

namespace Cert.KernelIdeal.Hand

open Idealize.ShloMosaic Cert.KernelIdeal Cert.KernelIdeal.Gen Idealize.ShloMosaic.TcCoe Idealize.SL.Sem

/-! ## Re-indexing the choices -/

/-- The place in the argument's order of choice `kk` of position `l` of chunk `k`. -/
def at3840 (k : Fin k0_t1_loop.trips) (kk : Fin 2) (l : Fin 128) : Fin 3840 :=
  ⟨256 * k.val + 2 * l.val + kk.val, by have := k.isLt; have h : k0_t1_loop.trips = 15 := by decide
                                        omega⟩

theorem sum_halves (g : Fin 2 → Fin 128 → EReal) :
    ∑ q : Fin 256, g ⟨q.val / 128, by omega⟩ ⟨q.val % 128, by omega⟩ = ∑ kk, ∑ l, g kk l := by
  rw [← Finset.sum_product', Finset.univ_product_univ]
  refine (Fintype.sum_equiv (finProdFinEquiv (m := 2) (n := 128)) (fun p => g p.1 p.2) _ fun p => ?_).symm
  obtain ⟨a, b⟩ := p
  have h : (finProdFinEquiv (a, b) : Fin 256).val = b.val + 128 * a.val := rfl
  have e1 : (⟨(finProdFinEquiv (a, b) : Fin 256).val / 128, by omega⟩ : Fin 2) = a := Fin.ext (by show (finProdFinEquiv (a, b) : Fin 256).val / 128 = _; omega)
  have e2 : (⟨(finProdFinEquiv (a, b) : Fin 256).val % 128, by omega⟩ : Fin 128) = b := Fin.ext (by show (finProdFinEquiv (a, b) : Fin 256).val % 128 = _; omega)
  exact (congrArg₂ g e1 e2).symm

theorem sum_pairs (g : Fin 256 → EReal) :
    ∑ q : Fin 256, g q = ∑ kk : Fin 2, ∑ l : Fin 128, g ⟨2 * l.val + kk.val, by omega⟩ := by
  rw [Finset.sum_comm, ← Finset.sum_product', Finset.univ_product_univ]
  refine (Fintype.sum_equiv (finProdFinEquiv (m := 128) (n := 2)) (fun p => g ⟨2 * p.1.val + p.2.val, by omega⟩) _ fun p => ?_).symm
  obtain ⟨a, b⟩ := p
  refine congrArg g (Fin.ext ?_)
  show 2 * a.val + b.val = b.val + 2 * a.val
  omega

theorem sum_chunks (H : Fin 3840 → EReal) :
    ∑ x, H x = ∑ k : Fin k0_t1_loop.trips, ∑ kk, ∑ l, H (at3840 k kk l) := by
  have h1 : ∑ x, H x = ∑ k : Fin 15, ∑ q : Fin 256, H ⟨256 * k.val + q.val, by omega⟩ := by
    rw [← Finset.sum_product', Finset.univ_product_univ]
    refine (Fintype.sum_equiv (finProdFinEquiv (m := 15) (n := 256)) (fun p => H ⟨256 * p.1.val + p.2.val, by omega⟩) _ fun p => ?_).symm
    obtain ⟨a, b⟩ := p
    refine congrArg H (Fin.ext ?_)
    show 256 * a.val + b.val = b.val + 256 * a.val
    omega
  rw [h1]
  show _ = ∑ k : Fin 15, _
  refine Finset.sum_congr rfl fun k _ => ?_
  rw [sum_pairs (fun q => H ⟨256 * k.val + q.val, by omega⟩)]
  refine Finset.sum_congr rfl fun kk _ => Finset.sum_congr rfl fun l _ => congrArg H (Fin.ext ?_)
  show 256 * k.val + (2 * l.val + kk.val) = 256 * k.val + 2 * l.val + kk.val
  omega

/-! ## The two programs' terms -/

theorem at_b (k : Fin k0_t1_loop.trips) (kk : Fin 2) (l : Fin 128) (h) : (⟨(at3840 k kk l).val / 1280, h⟩ : Fin 3) = bat k :=
  Fin.ext (by show (256 * k.val + 2 * l.val + kk.val) / 1280 = k.val / 5; omega)
theorem at_s (k : Fin k0_t1_loop.trips) (kk : Fin 2) (l : Fin 128) (h) : (⟨(at3840 k kk l).val / 2 % 640, h⟩ : Fin 640) = pos k l :=
  Fin.ext (by show (256 * k.val + 2 * l.val + kk.val) / 2 % 640 = 128 * (k.val % 5) + l.val; omega)
theorem at_k (k : Fin k0_t1_loop.trips) (kk : Fin 2) (l : Fin 128) (h) : (⟨(at3840 k kk l).val % 2, h⟩ : Fin 2) = kk :=
  Fin.ext (by show (256 * k.val + 2 * l.val + kk.val) % 2 = kk.val; omega)

theorem cmpi_eq_comm (a b : BitVec 32) : IntOp.cmpi .eq a b = IntOp.cmpi .eq b a := by
  unfold IntOp.cmpi
  exact congrArg BitVec.ofBool BEq.comm

section Terms
variable (c : Dev nD) (aY : Vec Ideal S3x640x2x6144 .fp8e4m3) (aS : Vec Ideal S3x640x2 .f32) (aI : Vec Ideal S3x640x2 .i32)
  (a3 : BufOf Ideal c A3) (a4 : BufOf Ideal c A4) (a5 : BufOf Ideal c A5)
  (hY : ∀ b s k d, numY c a3 (ix4 b k s d) = aY (ix4 b s k d))
  (hS : ∀ b s k, num15 c a4 (ix3 b k s) = aS (ix3 b s k))
  (hI : ∀ b s k, word16 c a5 (ix3 b k s) = aI (ix3 b s k))

include hI in
theorem onehot_at (e : Fin 8) (k : Fin k0_t1_loop.trips) (kk : Fin 2) (l : Fin 128) :
    ReferenceIdeal.Gen.k0_pay8 (F := Ideal) aI (ix2 e (at3840 k kk l)) = ind (hit c a5 k e.val kk l) := by
  pointwise [ReferenceIdeal.Gen.k0_pay8]
  rw [at_b, at_s, at_k, cmpi_eq_comm, ← hI]
  rfl

include hI in
theorem count_eq (e : Fin 8) (j : Fin 1) :
    ReferenceIdeal.Gen.k0_pay9 (F := Ideal) aI (ix2 e j) = rowC c (finC c a5) (ix2 e j) := by
  rw [rowC_at]
  pointwise [ReferenceIdeal.Gen.k0_pay9]
  rw [sum_chunks]
  refine Eq.trans ?_ Finset.sum_comm
  refine Finset.sum_congr rfl fun k _ => ?_
  rw [Finset.sum_comm]
  refine Finset.sum_congr rfl fun l _ => ?_
  rw [Fin.sum_univ_two, onehot_at c aI a5 hI, onehot_at c aI a5 hI]

include hY hS hI in
theorem term_eq (e : Fin 8) (d : Fin 6144) (k : Fin k0_t1_loop.trips) (kk : Fin 2) (l : Fin 128) :
    ind (hit c a5 k e.val kk l) * (aY (ix4 (bat k) (pos k l) kk d) * aS (ix3 (bat k) (pos k l) kk))
      = wt c a4 a5 k e.val kk l * numY c a3 (ix4 (bat k) kk (pos k l) d) := by
  rw [← hY, ← hS]
  unfold wt
  rcases BitVec.eq_zero_or_eq_one (hit c a5 k e.val kk l) with h | h
  · rw [h, ind_zero, zero_mul]
    exact (zero_mul _).symm
  · rw [h, ind_one, one_mul]
    exact mul_comm _ _

variable (hfin : ∀ i, num15 c a4 i ≠ ⊤ ∧ num15 c a4 i ≠ ⊥)

include hY hS hI hfin in
theorem sums_eq (e : Fin 8) (d : Fin 6144) :
    ∑ x : Fin 3840, ReferenceIdeal.Gen.k0_pay8 (F := Ideal) aI (ix2 e x)
        * (aY (ix4 (⟨x.val / 1280, by omega⟩ : Fin 3) (⟨x.val / 2 % 640, by omega⟩ : Fin 640) (⟨x.val % 2, by omega⟩ : Fin 2) d)
          * aS (ix3 (⟨x.val / 1280, by omega⟩ : Fin 3) (⟨x.val / 2 % 640, by omega⟩ : Fin 640) (⟨x.val % 2, by omega⟩ : Fin 2)))
      = rowS c (finS c a3 a4 a5) (ix2 e d) := by
  rw [rowS_at c a3 a4 a5 hfin, sum_chunks]
  refine Finset.sum_congr rfl fun k _ => ?_
  refine Eq.trans ?_ (sum_halves fun kk l => wt c a4 a5 k e.val kk l * numY c a3 (ix4 (bat k) kk (pos k l) d)).symm
  refine Finset.sum_congr rfl fun kk _ => Finset.sum_congr rfl fun l _ => ?_
  rw [at_b, at_s, at_k, onehot_at c aI a5 hI]
  exact term_eq c aY aS aI a3 a4 a5 hY hS hI e d k kk l

include hY hS hI hfin in
theorem averages_eq : lateY c a3 a4 a5 = ReferenceIdeal.Gen.k0_pay10 (F := Ideal) aS aI aY := by
  funext i
  obtain ⟨e, d, rfl⟩ : ∃ e d, i = ix2 e d := ⟨i 0, i 1, eq_ix2 i⟩
  unfold lateY yOf
  pointwise [k0_pay1, ReferenceIdeal.Gen.k0_pay10]
  rw [← count_eq c aI a5 hI, ← sums_eq c aY aS aI a3 a4 a5 hY hS hI hfin]

include hY hS hI hfin in
theorem ema_eq (a6 : Vec Ideal S8x6144 .f32) : lateE c a3 a4 a5 a6
    = ReferenceIdeal.Gen.k0_pay1 (F := Ideal) a6 (ReferenceIdeal.Gen.k0_pay9 aI) (ReferenceIdeal.Gen.k0_pay10 (F := Ideal) aS aI aY) := by
  rw [← averages_eq c aY aS aI a3 a4 a5 hY hS hI hfin]
  funext i
  obtain ⟨e, d, rfl⟩ : ∃ e d, i = ix2 e d := ⟨i 0, i 1, eq_ix2 i⟩
  unfold lateE eOf lateY yOf
  pointwise [k0_pay1, k0_pay2, ReferenceIdeal.Gen.k0_pay1]
  rw [← count_eq c aI a5 hI]

end Terms

/-! ## The kernel's windows -/

section Run
variable (m : (ℓ : Loc nD τ sig) → Buf (Elt Ideal) ℓ) (c : Dev nD)

/-- Every scale is a real number. -/
def FinScales (a : S3x640x2.Idx → EReal) : Prop := ∀ i, a i ≠ ⊤ ∧ a i ≠ ⊥

theorem V_main_v0_at (b : Fin 3) (k : Fin 8) (s : Fin 640) : V m c main_v0 (ix3 b k s) = m ((c : Thread nD τ).loc main_arg0) (ix3 b s k) := by
  unfold V; after_reads_at
theorem V_main_v1_at (b : Fin 3) (k : Fin 2) (s : Fin 640) (d : Fin 6144) : V m c main_v1 (ix4 b k s d) = m ((c : Thread nD τ).loc main_arg3) (ix4 b s k d) := by
  unfold V; after_reads_at
theorem V_main_v2_at (b : Fin 3) (k : Fin 2) (s : Fin 640) : V m c main_v2 (ix3 b k s) = m ((c : Thread nD τ).loc main_arg4) (ix3 b s k) := by
  unfold V; after_reads_at
theorem V_main_v3_at (b : Fin 3) (k : Fin 2) (s : Fin 640) : V m c main_v3 (ix3 b k s) = m ((c : Thread nD τ).loc main_arg5) (ix3 b s k) := by
  unfold V; after_reads_at

theorem scales_fin (h : FinScales (m ((c : Thread nD τ).loc main_arg4))) (i : S3x2x640.Idx) :
    num15 c (V m c main_v2) i ≠ ⊤ ∧ num15 c (V m c main_v2) i ≠ ⊥ := by
  obtain ⟨b, k, s, rfl⟩ : ∃ b k s, i = ix3 b k s := ⟨i 0, i 1, i 2, eq_ix3 i⟩
  have e : num15 c (V m c main_v2) (ix3 b k s) = m ((c : Thread nD τ).loc main_arg4) (ix3 b s k) := V_main_v2_at m c b k s
  rw [e]
  exact h _

theorem res3_eq (h : FinScales (m ((c : Thread nD τ).loc main_arg4))) :
    res3 m c = ReferenceIdeal.Gen.k0_pay10 (F := Ideal) (m ((c : Thread nD τ).loc main_arg4)) (m ((c : Thread nD τ).loc main_arg5)) (m ((c : Thread nD τ).loc main_arg3)) :=
  (res3_def m c).trans (averages_eq c _ _ _ (V m c main_v1) (V m c main_v2) (V m c main_v3) (fun b s k d => V_main_v1_at m c b k s d)
    (fun b s k => V_main_v2_at m c b k s) (fun b s k => V_main_v3_at m c b k s) (scales_fin m c h))

theorem res1_eq (h : FinScales (m ((c : Thread nD τ).loc main_arg4))) :
    res1 m c = ReferenceIdeal.Gen.k0_pay1 (F := Ideal) (m ((c : Thread nD τ).loc main_arg6)) (ReferenceIdeal.Gen.k0_pay9 (m ((c : Thread nD τ).loc main_arg5)))
      (ReferenceIdeal.Gen.k0_pay10 (F := Ideal) (m ((c : Thread nD τ).loc main_arg4)) (m ((c : Thread nD τ).loc main_arg5)) (m ((c : Thread nD τ).loc main_arg3))) := by
  refine (res1_def m c).trans ?_
  rw [V_main_arg6]
  exact ema_eq c _ _ _ (V m c main_v1) (V m c main_v2) (V m c main_v3) (fun b s k d => V_main_v1_at m c b k s d)
    (fun b s k => V_main_v2_at m c b k s) (fun b s k => V_main_v3_at m c b k s) (scales_fin m c h) _

end Run

/-! ## The arrays after the run: one block is the whole of each -/

section Arrays
variable {F : FTy → Type} [FloatOps F] (m : (ℓ : Loc nD τ sig) → Buf (Elt F) ℓ)

attribute [local irreducible] res0 res1 res2 res3

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx_zero3 : ∀ t : Fin cfg0.N, win0_3.index t (0 : Fin 2) = 0 ∧ win0_3.index t (1 : Fin 2) = 0 :=
  (by decide +kernel : ∀ t : Fin grid0.N, _)

theorem emb0 (t : Fin cfg0.N) (j : S3x8x640.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 8 + 1 * (j 1).val = (j 1).val; omega
  | ⟨2, _⟩ => show win0_0.index t (2 : Fin 3) * 640 + 1 * (j 2).val = (j 2).val; omega
theorem emb1 (t : Fin cfg0.N) (j : S8x6144.Idx) : ((cfg0.win 1).blk t).view.emb j = j := by
  obtain ⟨e0, e1⟩ := idx_zero1 t
  funext a; apply Fin.ext
  match a with
  | ⟨0, _⟩ => show win0_1.index t (0 : Fin 2) * 8 + 1 * (j 0).val = (j 0).val; omega
  | ⟨1, _⟩ => show win0_1.index t (1 : Fin 2) * 6144 + 1 * (j 1).val = (j 1).val; omega
theorem emb2 (t : Fin cfg0.N) (j : S3x8x640.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 8 + 1 * (j 1).val = (j 1).val; omega
  | ⟨2, _⟩ => show win0_2.index t (2 : Fin 3) * 640 + 1 * (j 2).val = (j 2).val; omega
theorem emb3 (t : Fin cfg0.N) (j : S8x6144.Idx) : ((cfg0.win 3).blk t).view.emb j = j := by
  obtain ⟨e0, e1⟩ := idx_zero3 t
  funext a; apply Fin.ext
  match a with
  | ⟨0, _⟩ => show win0_3.index t (0 : Fin 2) * 8 + 1 * (j 0).val = (j 0).val; omega
  | ⟨1, _⟩ => show win0_3.index t (1 : Fin 2) * 6144 + 1 * (j 1).val = (j 1).val; omega

theorem final0 (c : Dev nD) : (dats m 0 c).arrAt 0 cfg0.N = res0 m c :=
  (dats m 0 c).arrAt_eq_of_cover 0 (res0 m c)
    (fun t _ => by
      show (cfg0.win 0).cut (grid0.coords t) ((dats m 0 c).after 0 t) = _
      rw [after0_0]; funext j; show res0 m c j = res0 m c (((cfg0.win 0).blk t).view.emb j); rw [emb0])
    (fun i => ⟨(⟨0, by decide⟩ : Fin cfg0.N), flush0_0 _, by
      have h := ((cfg0.win 0).blk (⟨0, by decide⟩ : Fin cfg0.N)).view.emb_mem_set i; rwa [emb0] at h⟩)
theorem final1 (c : Dev nD) : (dats m 0 c).arrAt 1 cfg0.N = res1 m c :=
  (dats m 0 c).arrAt_eq_of_cover 1 (res1 m c)
    (fun t _ => by
      show (cfg0.win 1).cut (grid0.coords t) ((dats m 0 c).after 1 t) = _
      rw [after0_1]; funext j; show res1 m c j = res1 m c (((cfg0.win 1).blk t).view.emb j); rw [emb1])
    (fun i => ⟨(⟨0, by decide⟩ : Fin cfg0.N), flush0_1 _, by
      have h := ((cfg0.win 1).blk (⟨0, by decide⟩ : Fin cfg0.N)).view.emb_mem_set i; rwa [emb1] at h⟩)
theorem final2 (c : Dev nD) : (dats m 0 c).arrAt 2 cfg0.N = res2 m c :=
  (dats m 0 c).arrAt_eq_of_cover 2 (res2 m c)
    (fun t _ => by
      show (cfg0.win 2).cut (grid0.coords t) ((dats m 0 c).after 2 t) = _
      rw [after0_2]; funext j; show res2 m c j = res2 m c (((cfg0.win 2).blk t).view.emb j); rw [emb2])
    (fun i => ⟨(⟨0, by decide⟩ : Fin cfg0.N), flush0_2 _, by
      have h := ((cfg0.win 2).blk (⟨0, by decide⟩ : Fin cfg0.N)).view.emb_mem_set i; rwa [emb2] at h⟩)
theorem final3 (c : Dev nD) : (dats m 0 c).arrAt 3 cfg0.N = res3 m c :=
  (dats m 0 c).arrAt_eq_of_cover 3 (res3 m c)
    (fun t _ => by
      show (cfg0.win 3).cut (grid0.coords t) ((dats m 0 c).after 3 t) = _
      rw [after0_3]; funext j; show res3 m c j = res3 m c (((cfg0.win 3).blk t).view.emb j); rw [emb3])
    (fun i => ⟨(⟨0, by decide⟩ : Fin cfg0.N), flush0_3 _, by
      have h := ((cfg0.win 3).blk (⟨0, by decide⟩ : Fin cfg0.N)).view.emb_mem_set i; rwa [emb3] at h⟩)

theorem ends1 (r : PUnit × MemSt nD τ sig (Elt F)) (h : RunPost m r) (c : Dev nD) :
    r.2.mem ((c.tc : Thread nD τ).loc main_v4_1) = res1 m c := ((h.1 c).1 1).trans (final1 m c)
theorem ends3 (r : PUnit × MemSt nD τ sig (Elt F)) (h : RunPost m r) (c : Dev nD) :
    r.2.mem ((c.tc : Thread nD τ).loc main_v4_3) = res3 m c := ((h.1 c).1 3).trans (final3 m c)

end Arrays

end Cert.KernelIdeal.Hand
end
-- ==== Proof.KIRouter.lean ====
/- The router gradient and the gradient of the logits the kernel leaves are the reference's: position by position the same
   dot products, the kernel's chunk `5 b + s` holding positions `128 s … 128 s + 127` of batch `b`. Extended reals. -/
module

public import proofs.«01_k».proof.Proof.KIGrad
public import proofs.«01_k».proof.Proof.KIValue

@[expose] public section

set_option maxRecDepth 100000

noncomputable section

namespace Cert.KernelIdeal.Hand

open Idealize.ShloMosaic Cert.KernelIdeal Cert.KernelIdeal.Gen Idealize.ShloMosaic.TcCoe Idealize.SL.Sem

/-! ## The reference, read at a batch, a position and an expert -/

theorem refSelect_at (v23 : FVec Ideal S3x640x8 .f32) (v35 : FVec Ideal S3x640x2 .f32) (aI : Vec Ideal S3x640x2 .i32) (b : Fin 3) (s : Fin 640) (e : Fin 8) :
    ReferenceIdeal.Gen.k0_pay6 v23 v35 aI (ix3 b s e)
      = Scalar.select (IntOp.cmpi .eq (aI (ix3 b s (1 : Fin 2))) (BitVec.ofNat 32 e.val)) (v35 (ix3 b s (1 : Fin 2)))
          (Scalar.select (IntOp.cmpi .eq (aI (ix3 b s (0 : Fin 2))) (BitVec.ofNat 32 e.val)) (v35 (ix3 b s (0 : Fin 2))) (v23 (ix3 b s e))) := by
  pointwise [ReferenceIdeal.Gen.k0_pay6]
theorem refDense_at (aE : Vec Ideal S8x6144 .f32) (aG : Vec Ideal S3x640x6144 .fp8e5m2) (aD : Vec Ideal S3x640 .f32) (b : Fin 3) (s : Fin 640) (e : Fin 8) :
    ReferenceIdeal.Gen.k0_pay4 aE aG aD (ix3 b s e) = (∑ d : Fin 6144, aG (ix3 b s d) * aE (ix2 e d)) * aD (ix2 b s) := by
  pointwise [ReferenceIdeal.Gen.k0_pay4, ReferenceIdeal.Gen.k0_pay3]
theorem refDots_at (aG : Vec Ideal S3x640x6144 .fp8e5m2) (aD : Vec Ideal S3x640 .f32) (aS : Vec Ideal S3x640x2 .f32) (aY : Vec Ideal S3x640x2x6144 .fp8e4m3) (b : Fin 3) (s : Fin 640) (j : Fin 2) :
    ReferenceIdeal.Gen.k0_pay5 aG aD aS aY (ix3 b s j) = (∑ d : Fin 6144, aG (ix3 b s d) * aY (ix4 b s j d)) * (aD (ix2 b s) * aS (ix3 b s j)) := by
  pointwise [ReferenceIdeal.Gen.k0_pay5, ReferenceIdeal.Gen.k0_pay3]

/-! ## The two softmaxes -/

/-- The softmax of eight numbers. -/
def softAt (x : Fin 8 → EReal) (e : Fin 8) : EReal :=
  Ideal.div (Ideal.exp (x e - Finset.univ.fold max (Ideal.ofBits .f32 0xFF800000#32) x))
    (∑ e', Ideal.exp (x e' - Finset.univ.fold max (Ideal.ofBits .f32 0xFF800000#32) x))
/-- The gradient of the logits `x` at the gradient `g` of the softmax. -/
def softGrad (x g : Fin 8 → EReal) (e : Fin 8) : EReal := softAt x e * (g e - ∑ e', softAt x e' * g e')

theorem kerSoft_at (w : IVec S8x128 1) (p : FVec Ideal S8x128 .f32) (q : FVec Ideal S1x128 .f32) (v : Vec Ideal S1x8x128 .f32) (e : Fin 8) (l : Fin 128) :
    k0_pay1407 w p q v (ix3 (0 : Fin 1) e l) = softGrad (fun e => v (ix3 (0 : Fin 1) e l)) (fun e => k0_pay1405 w p q (ix2 e l)) e := by
  unfold k0_pay1407
  generalize k0_pay1405 w p q = g
  pointwise []
  rfl
theorem refSoft_at (a0 : Vec Ideal S3x640x8 .f32) (v23 : FVec Ideal S3x640x8 .f32) (v35 : FVec Ideal S3x640x2 .f32) (aI : Vec Ideal S3x640x2 .i32) (b : Fin 3) (s : Fin 640) (e : Fin 8) :
    ReferenceIdeal.Gen.k0_pay7 (ReferenceIdeal.Gen.k0_pay2 a0) v23 v35 aI (ix3 b s e)
      = softGrad (fun e => a0 (ix3 b s e)) (fun e => ReferenceIdeal.Gen.k0_pay6 v23 v35 aI (ix3 b s e)) e := by
  have hbot : Ideal.ofBits .f32 0xFF800000#32 = ⊥ := by simp [Ideal.ofBits, Ideal.ieee]
  have hmax : ∀ z : EReal, max (Ideal.ofBits .f32 0xFF800000#32) z = z := fun z => by rw [hbot]; exact max_eq_right bot_le
  unfold ReferenceIdeal.Gen.k0_pay7
  generalize ReferenceIdeal.Gen.k0_pay6 v23 v35 aI = g
  pointwise [ReferenceIdeal.Gen.k0_pay2]
  simp only [hmax]
  rfl

/-! ## A chunk against the reference -/

section Terms
variable (c : Dev nD) (aX : Vec Ideal S3x640x8 .f32) (aG : Vec Ideal S3x640x6144 .fp8e5m2) (aD : Vec Ideal S3x640 .f32) (aY : Vec Ideal S3x640x2x6144 .fp8e4m3)
  (aS : Vec Ideal S3x640x2 .f32) (aI : Vec Ideal S3x640x2 .i32) (aE : Vec Ideal S8x6144 .f32)
  (a0 : BufOf Ideal c B11) (a3 : BufOf Ideal c A3) (a4 : BufOf Ideal c A4) (a5 : BufOf Ideal c A5)
  (hX : ∀ b s e, B11.view.read (Elt Ideal) a0 (ix3 b e s) = aX (ix3 b s e))
  (hY : ∀ b s k d, numY c a3 (ix4 b k s d) = aY (ix4 b s k d))
  (hS : ∀ b s k, num15 c a4 (ix3 b k s) = aS (ix3 b s k))
  (hI : ∀ b s k, word16 c a5 (ix3 b k s) = aI (ix3 b s k))

/-- The reference's router gradient. -/
abbrev refGrad : FVec Ideal S3x640x8 .f32 :=
  ReferenceIdeal.Gen.k0_pay6 (ReferenceIdeal.Gen.k0_pay4 aE aG aD) (ReferenceIdeal.Gen.k0_pay5 aG aD aS aY) aI

theorem ringG_at (k : Fin k0_t1_loop.trips) (l : Fin 128) (d : Fin 6144) :
    num12 c (ringG c aG) (ix3 k l d) = aG (ix3 (bat k) (pos k l) d) := by
  show aG (gatherG _) = aG _
  congr 1

theorem narrow_at (e : Fin 8) (d : Fin 6144) : num18 c (k0_pay1404 (F := Ideal) aE : BufOf Ideal c B18) (ix2 e d) = aE (ix2 e d) := by
  show (k0_pay1404 (F := Ideal) aE) (ix2 e d) = aE (ix2 e d)
  pointwise [k0_pay1404]

include hY hS hI in
theorem grad_ref (k : Fin k0_t1_loop.trips) (e : Fin 8) (l : Fin 128) :
    gradAt c (ringG c aG) (ringY c a3) k aD a4 a5 (k0_pay1404 aE) e l = refGrad aG aD aY aS aI aE (ix3 (bat k) (pos k l) e) := by
  have hdot : ∀ j : Fin 2, ∑ d, prodAt c (ringG c aG) (ringY c a3) k j l d = ∑ d, aG (ix3 (bat k) (pos k l) d) * aY (ix4 (bat k) (pos k l) j d) := fun j =>
    Finset.sum_congr rfl fun d _ => congrArg₂ (fun a b : EReal => a * b) (ringG_at c aG k l d) ((ringY_at c a3 k j l d).trans (hY _ _ _ _))
  have hdense : ∑ d, num18 c (k0_pay1404 (F := Ideal) aE) (ix2 e d) * num12 c (ringG c aG) (ix3 k l d) = ∑ d, aG (ix3 (bat k) (pos k l) d) * aE (ix2 e d) :=
    Finset.sum_congr rfl fun d _ => (congrArg₂ (fun a b : EReal => a * b) (narrow_at c aE e d) (ringG_at c aG k l d)).trans (mul_comm _ _)
  have hd : num13 c aD (ix2 (bat k) (pos k l)) = aD (ix2 (bat k) (pos k l)) := rfl
  unfold refGrad
  rw [refSelect_at, refDense_at, refDots_at, refDots_at]
  unfold gradAt hit
  rw [hdot, hdot, hdense, hS, hS, hI, hI, hd, cmpi_eq_comm, cmpi_eq_comm (BitVec.ofNat 32 e.val)]

theorem chunk_bat (b : Fin 3) (e : Fin 8) (s : Fin 640) : bat (chunkOf (ix3 b e s)) = b :=
  Fin.ext (by show (5 * b.val + s.val / 128) / 5 = b.val; omega)
theorem chunk_pos (b : Fin 3) (e : Fin 8) (s : Fin 640) : pos (chunkOf (ix3 b e s)) (⟨s.val % 128, Nat.mod_lt _ (by decide)⟩ : Fin 128) = s :=
  Fin.ext (by show 128 * ((5 * b.val + s.val / 128) % 5) + s.val % 128 = s.val; omega)

include hY hS hI in
theorem rowsD_at (b : Fin 3) (s : Fin 640) (e : Fin 8) :
    rows (fun k => payD c (ringG c aG) aD (ringY c a3) a4 a5 (k0_pay1404 aE) k) (ix3 b e s) = refGrad aG aD aY aS aI aE (ix3 b s e) := by
  refine (gradD_at c (ringG c aG) (ringY c a3) (chunkOf (ix3 b e s)) aD a4 a5 (k0_pay1404 aE) e (⟨s.val % 128, Nat.mod_lt _ (by decide)⟩ : Fin 128)).trans ?_
  rw [grad_ref c aG aD aY aS aI aE a3 a4 a5 hY hS hI, chunk_bat, chunk_pos]

theorem logit_at (k : Fin k0_t1_loop.trips) (e : Fin 8) (l : Fin 128) :
    View.readAt (Elt Ideal) B11.view (Rect.unit (s := S3x8x640) (k0_off57 k) S1x8x128.size (k0_off57_inb k)).toLoadRect a0 (ix3 (0 : Fin 1) e l)
      = B11.view.read (Elt Ideal) a0 (ix3 (bat k) e (pos k l)) :=
  readAt_at B11.view a0 _ (k0_off57_eq k) _ (ix3 (bat k) e (pos k l)) fun a => match a with
    | ⟨0, _⟩ => rfl
    | ⟨1, _⟩ => (Nat.zero_add _).symm
    | ⟨2, _⟩ => rfl

include hX hY hS hI in
theorem rowsS_at (b : Fin 3) (s : Fin 640) (e : Fin 8) :
    rows (fun k => payS c a0 (ringG c aG) aD (ringY c a3) a4 a5 (k0_pay1404 aE) k) (ix3 b e s)
      = ReferenceIdeal.Gen.k0_pay7 (ReferenceIdeal.Gen.k0_pay2 aX) (ReferenceIdeal.Gen.k0_pay4 aE aG aD) (ReferenceIdeal.Gen.k0_pay5 aG aD aS aY) aI (ix3 b s e) := by
  rw [refSoft_at]
  have hk := chunk_bat b e s
  have hp := chunk_pos b e s
  refine (kerSoft_at _ _ _ _ e (⟨s.val % 128, Nat.mod_lt _ (by decide)⟩ : Fin 128)).trans ?_
  refine congrArg₂ (fun x g => softGrad x g e) (funext fun e' => ?_) (funext fun e' => ?_)
  · refine (logit_at c a0 (chunkOf (ix3 b e s)) e' _).trans ?_
    rw [hk, hp, hX]
  · rw [grad_eq]
    refine (gradV_at c (ringG c aG) (ringY c a3) (chunkOf (ix3 b e s)) aD a4 a5 (k0_pay1404 aE) e' (⟨s.val % 128, Nat.mod_lt _ (by decide)⟩ : Fin 128)).trans ?_
    rw [grad_ref c aG aD aY aS aI aE a3 a4 a5 hY hS hI, hk, hp]

end Terms

/-! ## The two results after the run -/

section Run
variable (m : (ℓ : Loc nD τ sig) → Buf (Elt Ideal) ℓ) (c : Dev nD)

theorem res2_at (b : Fin 3) (s : Fin 640) (e : Fin 8) :
    res2 m c (ix3 b e s) = refGrad (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix3 b s e) := by
  rw [res2_def, V_main_arg1, V_main_arg2, V_main_arg6]
  exact rowsD_at c _ _ _ _ _ _ (V m c main_v1) (V m c main_v2) (V m c main_v3) (fun b s k d => V_main_v1_at m c b k s d)
    (fun b s k => V_main_v2_at m c b k s) (fun b s k => V_main_v3_at m c b k s) b s e

theorem res0_at (b : Fin 3) (s : Fin 640) (e : Fin 8) :
    res0 m c (ix3 b e s) = ReferenceIdeal.Gen.k0_pay7 (ReferenceIdeal.Gen.k0_pay2 (m ((c : Thread nD τ).loc main_arg0)))
      (ReferenceIdeal.Gen.k0_pay4 (m ((c : Thread nD τ).loc main_arg6)) (m ((c : Thread nD τ).loc main_arg1)) (m ((c : Thread nD τ).loc main_arg2)))
      (ReferenceIdeal.Gen.k0_pay5 (m ((c : Thread nD τ).loc main_arg1)) (m ((c : Thread nD τ).loc main_arg2)) (m ((c : Thread nD τ).loc main_arg4)) (m ((c : Thread nD τ).loc main_arg3)))
      (m ((c : Thread nD τ).loc main_arg5)) (ix3 b s e) := by
  rw [res0_def, V_main_arg1, V_main_arg2, V_main_arg6]
  exact rowsS_at c _ _ _ _ _ _ _ (V m c main_v0) (V m c main_v1) (V m c main_v2) (V m c main_v3) (fun b s e => V_main_v0_at m c b e s) (fun b s k d => V_main_v1_at m c b k s d)
    (fun b s k => V_main_v2_at m c b k s) (fun b s k => V_main_v3_at m c b k s) b s e

theorem arrs_inj : Function.Injective (Pipeline.arrRef spec0) := by decide

/-- The last two lines turn the rows back. -/
theorem tail5_at (b : Fin 3) (s : Fin 640) (e : Fin 8) :
    Pipeline.afterTail₀ cfgs (dats m) 0 (V0 m) [hostOps1] c main_v5 (ix3 b s e) = res0 m c (ix3 b e s) := by
  unfold Pipeline.afterTail₀
  after_reads_at
  exact congrFun ((Pipeline.withArrays_arr spec0 arrs_inj c (V0 m c) (fun w => (dats m 0 c).arrAt w cfg0.N) 0).trans (final0 m c)) _
theorem tail6_at (b : Fin 3) (s : Fin 640) (e : Fin 8) :
    Pipeline.afterTail₀ cfgs (dats m) 0 (V0 m) [hostOps1] c main_v6 (ix3 b s e) = res2 m c (ix3 b e s) := by
  unfold Pipeline.afterTail₀
  after_reads_at
  exact congrFun ((Pipeline.withArrays_arr spec0 arrs_inj c (V0 m c) (fun w => (dats m 0 c).arrAt w cfg0.N) 2).trans (final2 m c)) _

theorem ends0 (r : PUnit × MemSt nD τ sig (Elt Ideal)) (h : RunPost m r) :
    r.2.mem ((c.tc : Thread nD τ).loc main_v5) = ReferenceIdeal.Gen.k0_pay7 (ReferenceIdeal.Gen.k0_pay2 (m ((c : Thread nD τ).loc main_arg0)))
      (ReferenceIdeal.Gen.k0_pay4 (m ((c : Thread nD τ).loc main_arg6)) (m ((c : Thread nD τ).loc main_arg1)) (m ((c : Thread nD τ).loc main_arg2)))
      (ReferenceIdeal.Gen.k0_pay5 (m ((c : Thread nD τ).loc main_arg1)) (m ((c : Thread nD τ).loc main_arg2)) (m ((c : Thread nD τ).loc main_arg4)) (m ((c : Thread nD τ).loc main_arg3)))
      (m ((c : Thread nD τ).loc main_arg5)) := by
  refine ((h.1 c).2 main_v5 (Pipeline.mem_restRefs_of main_v5 (by decide) (by decide))).trans (funext fun i => ?_)
  obtain ⟨b, s, e, rfl⟩ : ∃ b s e, i = ix3 b s e := ⟨i 0, i 1, i 2, eq_ix3 i⟩
  exact (tail5_at m c b s e).trans (res0_at m c b s e)
theorem ends2 (r : PUnit × MemSt nD τ sig (Elt Ideal)) (h : RunPost m r) :
    r.2.mem ((c.tc : Thread nD τ).loc main_v6) = refGrad (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine ((h.1 c).2 main_v6 (Pipeline.mem_restRefs_of main_v6 (by decide) (by decide))).trans (funext fun i => ?_)
  obtain ⟨b, s, e, rfl⟩ : ∃ b s e, i = ix3 b s e := ⟨i 0, i 1, i 2, eq_ix3 i⟩
  exact (tail6_at m c b s e).trans (res2_at m c b s e)

end Run
end Cert.KernelIdeal.Hand
end
-- ==== Proof.KIAlgebraic.lean ====
/- The kernel's four results are the reference's: the claim about values, from the two runs and the equality of what they leave. -/
module

public import proofs.«01_k».proof.Defs
public import proofs.«01_k».proof.Proof.KIRouter

@[expose] public section

set_option maxRecDepth 100000

noncomputable section

namespace Cert.KernelIdeal.Hand

open Idealize.ShloMosaic Cert.KernelIdeal.Gen Idealize.ShloMosaic.TcCoe Idealize.SL.Sem

theorem preFacts : Cert.Pre_finite_scales.Facts where
  bcast_S_S3x640x2 := by decide

/-- A number whose absolute value is below infinity is real. -/
theorem real_of_abs_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor <;> intro e <;> subst e <;> simp [Ideal.cmp] at h

theorem finScales_of_pre [hPre : Cert.Pre_finite_scales.Facts] (a0 : FVec Ideal S3x640x8 .f32) (a1 : FVec Ideal S3x640x6144 .fp8e5m2) (a2 : FVec Ideal S3x640 .f32)
    (a3 : FVec Ideal S3x640x2x6144 .fp8e4m3) (a4 : FVec Ideal S3x640x2 .f32) (a5 : IVec S3x640x2 32) (a6 : FVec Ideal S8x6144 .f32)
    (h : Cert.Pre_finite_scales.fn (F := Ideal) a0 a1 a2 a3 a4 a5 a6 = fun _ => 1#1) : FinScales a4 :=
  fun i => real_of_abs_lt (a4 i) (congrFun h i)

/-- The reference's four results, from the seven arguments. -/
theorem G10_eq (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Value.G10 a0 a1 a2 a3 a4 a5 a6 = ReferenceIdeal.Gen.k0_pay10 a4 a5 a3 := by
  show ReferenceIdeal.Gen.k0_pay13 a0 a1 a2 a3 a4 a5 a6 = _
  unfold ReferenceIdeal.Gen.k0_pay13
  rw [View.ld_unit_zero (S := S3x640x2) ReferenceIdeal.Value.hz5 _ a4, View.ld_unit_zero (S := S3x640x2) ReferenceIdeal.Value.hz5 _ a5,
    View.ld_unit_zero (S := S3x640x2x6144) ReferenceIdeal.Value.hz3 _ a3]

theorem G8_eq (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Value.G8 a0 a1 a2 a3 a4 a5 a6 = ReferenceIdeal.Gen.k0_pay1 a6 (ReferenceIdeal.Gen.k0_pay9 a5) (ReferenceIdeal.Gen.k0_pay10 a4 a5 a3) :=
  congrArg (ReferenceIdeal.Gen.k0_pay1 a6 (ReferenceIdeal.Gen.k0_pay9 a5)) (G10_eq a0 a1 a2 a3 a4 a5 a6)

theorem dense_ref (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Gen.k0_pay11 a0 a1 a2 a3 a4 a5 a6 = ReferenceIdeal.Gen.k0_pay4 a6 a1 a2 := by
  unfold ReferenceIdeal.Gen.k0_pay11
  rw [View.ld_unit_zero (S := S8x6144) ReferenceIdeal.Value.hz6 _ a6, View.ld_unit_zero (S := S3x640x6144) ReferenceIdeal.Value.hz1 _ a1,
    View.ld_unit_zero (S := S3x640) ReferenceIdeal.Value.hz2 _ a2]

theorem dots_ref (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Gen.k0_pay12 a0 a1 a2 a3 a4 a5 a6 = ReferenceIdeal.Gen.k0_pay5 a1 a2 a4 a3 := by
  unfold ReferenceIdeal.Gen.k0_pay12
  rw [View.ld_unit_zero (S := S3x640x2) ReferenceIdeal.Value.hz5 _ a4, View.ld_unit_zero (S := S3x640x6144) ReferenceIdeal.Value.hz1 _ a1,
    View.ld_unit_zero (S := S3x640) ReferenceIdeal.Value.hz2 _ a2, View.ld_unit_zero (S := S3x640x2x6144) ReferenceIdeal.Value.hz3 _ a3]

theorem G9_eq (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Value.G9 a0 a1 a2 a3 a4 a5 a6 = refGrad a1 a2 a3 a4 a5 a6 := by
  unfold ReferenceIdeal.Value.G9 refGrad
  rw [dense_ref, dots_ref]

theorem G7_eq (a0 : Vec Ideal S3x640x8 .f32) (a1 : Vec Ideal S3x640x6144 .fp8e5m2) (a2 : Vec Ideal S3x640 .f32) (a3 : Vec Ideal S3x640x2x6144 .fp8e4m3)
    (a4 : Vec Ideal S3x640x2 .f32) (a5 : Vec Ideal S3x640x2 .i32) (a6 : Vec Ideal S8x6144 .f32) :
    ReferenceIdeal.Value.G7 a0 a1 a2 a3 a4 a5 a6
      = ReferenceIdeal.Gen.k0_pay7 (ReferenceIdeal.Gen.k0_pay2 a0) (ReferenceIdeal.Gen.k0_pay4 a6 a1 a2) (ReferenceIdeal.Gen.k0_pay5 a1 a2 a4 a3) a5 := by
  unfold ReferenceIdeal.Value.G7
  rw [dense_ref, dots_ref]

theorem algebraic : Cert.algebraic_KernelIdeal_ReferenceIdeal_pre_finite_scales (hKernelIdeal := Cert.KernelIdeal.Gen.facts)
    (hReferenceIdeal := Cert.ReferenceIdeal.Gen.facts) (hPre_finite_scales := preFacts) := by
  intro m g m' g' hpre hargs
  have hfin : ∀ c : Dev nD, FinScales (m ((c : Thread nD τ).loc main_arg4)) := fun c => finScales_of_pre (hPre := preFacts) _ _ _ _ _ _ _ (hpre c)
  refine ⟨fun c => ReferenceIdeal.Gen.k0_pay7 (ReferenceIdeal.Gen.k0_pay2 (m ((c : Thread nD τ).loc main_arg0)))
      (ReferenceIdeal.Gen.k0_pay4 (m ((c : Thread nD τ).loc main_arg6)) (m ((c : Thread nD τ).loc main_arg1)) (m ((c : Thread nD τ).loc main_arg2)))
      (ReferenceIdeal.Gen.k0_pay5 (m ((c : Thread nD τ).loc main_arg1)) (m ((c : Thread nD τ).loc main_arg2)) (m ((c : Thread nD τ).loc main_arg4)) (m ((c : Thread nD τ).loc main_arg3)))
      (m ((c : Thread nD τ).loc main_arg5)), fun c => res1 m c,
    fun c => refGrad (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)), fun c => res3 m c, ?_, ?_⟩
  · exact (θ_run defs _ _).mono (fun r h c => ⟨ends0 m c r h, ends1 m r h c, ends2 m c r h, ends3 m r h c, args_kept m r h c⟩) (run_main m g)
  · refine (θ_run Cert.ReferenceIdeal.defs _ _).mono (fun r h c => ?_) (Cert.ReferenceIdeal.Value.run m' g')
    obtain ⟨h0, h1, h2, h3, hk⟩ := h c
    obtain ⟨a0, a1, a2, a3, a4, a5, a6⟩ := hargs c
    refine ⟨?_, ?_, ?_, ?_, hk⟩
    · refine h0.trans ((G7_eq _ _ _ _ _ _ _).trans ?_)
      rw [a0, a1, a2, a3, a4, a5, a6]
    · refine h1.trans ((G8_eq _ _ _ _ _ _ _).trans ?_)
      refine Eq.trans ?_ (res1_eq m c (hfin c)).symm
      rw [a3, a4, a5, a6]
    · refine h2.trans ((G9_eq _ _ _ _ _ _ _).trans ?_)
      rw [a1, a2, a3, a4, a5, a6]
    · refine h3.trans ((G10_eq _ _ _ _ _ _ _).trans ?_)
      refine Eq.trans ?_ (res3_eq m c (hfin c)).symm
      rw [a3, a4, a5]

end Cert.KernelIdeal.Hand
end
-- ==== Proof.lean ====
/- The proof of the certificate's claim: the kernel and its idealization run, keep their arguments and end with every
   semaphore counter at zero (`KFrame`, `KIFrame`); so does the reference; the idealization rewrites nothing; and the values
   agree (`KIAlgebraic`). -/
module

public import proofs.«01_k».proof.Defs
public import proofs.«01_k».proof.Proof.KFrame
public import proofs.«01_k».proof.Proof.KIFrame
public import proofs.«01_k».proof.Proof.KIAlgebraic
public import proofs.«01_k».proof.Proof.Gen.ReferenceIdeal.Frame

@[expose] public section

theorem Cert.Proof.claim : Cert.Claim :=
  ⟨Cert.Kernel.Gen.facts, Cert.KernelIdeal.Gen.facts, Cert.ReferenceIdeal.Gen.facts, Cert.KernelIdeal.Hand.preFacts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, Cert.KernelIdeal.Hand.algebraic⟩

end
